-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok_KernelIdeal [hPre_inputs_ok_KernelIdeal : Cert.Pre_inputs_ok_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok_ReferenceIdeal [hPre_inputs_ok_ReferenceIdeal : Cert.Pre_inputs_ok_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_inputs_ok_KernelIdeal [hKernelIdeal : Cert.KernelIdeal.Facts] [hPre_inputs_ok_KernelIdeal : Cert.Pre_inputs_ok_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_inputs_ok_ReferenceIdeal [hReferenceIdeal : Cert.ReferenceIdeal.Facts] [hPre_inputs_ok_ReferenceIdeal : Cert.Pre_inputs_ok_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_inputs_ok_KernelIdeal [hKernelIdeal : Cert.KernelIdeal.Facts] [hReferenceIdeal : Cert.ReferenceIdeal.Facts] [hPre_inputs_ok_KernelIdeal : Cert.Pre_inputs_ok_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 1024, 1024]⟩ ⟨3, ![64, 1024, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![2048, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v41) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_inputs_ok_KernelIdeal : Cert.Pre_inputs_ok_KernelIdeal.Facts) (hPre_inputs_ok_ReferenceIdeal : Cert.Pre_inputs_ok_ReferenceIdeal.Facts),
    quiescent_Kernel (hKernel := hKernel)
    ∧ quiescent_KernelIdeal (hKernelIdeal := hKernelIdeal)
    ∧ quiescent_KernelIdeal_pre_inputs_ok_KernelIdeal (hKernelIdeal := hKernelIdeal) (hPre_inputs_ok_KernelIdeal := hPre_inputs_ok_KernelIdeal)
    ∧ quiescent_ReferenceIdeal (hReferenceIdeal := hReferenceIdeal)
    ∧ quiescent_ReferenceIdeal_pre_inputs_ok_ReferenceIdeal (hReferenceIdeal := hReferenceIdeal) (hPre_inputs_ok_ReferenceIdeal := hPre_inputs_ok_ReferenceIdeal)
    ∧ preserves_Kernel_KernelIdeal
    ∧ algebraic_KernelIdeal_ReferenceIdeal_pre_inputs_ok_KernelIdeal (hKernelIdeal := hKernelIdeal) (hReferenceIdeal := hReferenceIdeal) (hPre_inputs_ok_KernelIdeal := hPre_inputs_ok_KernelIdeal)
-- ==== Pre_inputs_ok_KernelIdeal.lean ====
abbrev S2048x1024 : Shape := ⟨2, ![2048, 1024]⟩
abbrev S1024x64 : Shape := ⟨2, ![1024, 64]⟩
abbrev S2048x2 : Shape := ⟨2, ![2048, 2]⟩
abbrev S8x1024x1024 : Shape := ⟨3, ![8, 1024, 1024]⟩
abbrev S_ : Shape := ⟨0, ![]⟩

class Facts : Prop where
  bcast_S_S2048x2 : S_.BroadcastsInDim S2048x2 (![] : Fin 0 → Fin S2048x2.rank)
  reducesTo_S2048x2_S_d0_1 : S2048x2.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S2048x1024 .f32) (main_arg1 : FVec F S1024x64 .f32) (main_arg2 : IVec S2048x2 32) (main_arg3 : FVec F S8x1024x1024 .f32) : IVec S_ 1 :=
  let main_c : IVec S_ 32 := constantI S_ 32 0#32
  let main_v0 : IVec S2048x2 32 := broadcastInDim S2048x2 ![] bcast_S_S2048x2 main_c
  let main_v1 : IVec S2048x2 1 := cmpi .sge main_arg2 main_v0
  let main_c_0 : IVec S_ 32 := constantI S_ 32 64#32
  let main_v2 : IVec S2048x2 32 := broadcastInDim S2048x2 ![] bcast_S_S2048x2 main_c_0
  let main_v3 : IVec S2048x2 1 := cmpi .slt main_arg2 main_v2
  let main_v4 : IVec S2048x2 1 := andi main_v1 main_v3
  let main_c_1 : IVec S_ 1 := constantI S_ 1 1#1
  let main_v5 : IVec S_ 1 := (fun x v => Host.reduce IntOp.andi x v reducesTo_S2048x2_S_d0_1 h_S_) main_v4 main_c_1
  let main_v6 : FVec F S2048x1024 .f32 := Host.absf main_arg0
  let main_cst : FVec F S_ .f32 := constant S_ .f32 0x7F800000#32
  let main_v7 : FVec F S2048x1024 .f32 := broadcastInDim S2048x1024 ![] bcast_S_S2048x1024 main_cst
  let main_v8 : IVec S2048x1024 1 := cmpf .olt main_v6 main_v7
  let main_c_2 : IVec S_ 1 := constantI S_ 1 1#1
  let main_v9 : IVec S_ 1 := (fun x v => Host.reduce IntOp.andi x v reducesTo_S2048x1024_S_d0_1 h_S_) main_v8 main_c_2
  let main_v10 : FVec F S1024x64 .f32 := Host.absf main_arg1
  let main_cst_3 : FVec F S_ .f32 := constant S_ .f32 0x7F800000#32
  let main_v11 : FVec F S1024x64 .f32 := broadcastInDim S1024x64 ![] bcast_S_S1024x64 main_cst_3
  let main_v12 : IVec S1024x64 1 := cmpf .olt main_v10 main_v11
  let main_c_4 : IVec S_ 1 := constantI S_ 1 1#1
  let main_v13 : IVec S_ 1 := (fun x v => Host.reduce IntOp.andi x v reducesTo_S1024x64_S_d0_1 h_S_) main_v12 main_c_4
  let main_v14 : IVec S_ 1 := andi main_v9 main_v13
  let main_v15 : IVec S_ 1 := andi main_v5 main_v14
  main_v15
-- ==== Pre_inputs_ok_ReferenceIdeal.lean ====
abbrev S2048x1024 : Shape := ⟨2, ![2048, 1024]⟩
abbrev S1024x64 : Shape := ⟨2, ![1024, 64]⟩
abbrev S2048x2 : Shape := ⟨2, ![2048, 2]⟩
abbrev S64x1024x1024 : Shape := ⟨3, ![64, 1024, 1024]⟩
abbrev S_ : Shape := ⟨0, ![]⟩

class Facts : Prop where
  bcast_S_S2048x2 : S_.BroadcastsInDim S2048x2 (![] : Fin 0 → Fin S2048x2.rank)
  reducesTo_S2048x2_S_d0_1 : S2048x2.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S2048x1024 .f32) (main_arg1 : FVec F S1024x64 .f32) (main_arg2 : IVec S2048x2 32) (main_arg3 : FVec F S64x1024x1024 .f32) : IVec S_ 1 :=
  let main_c : IVec S_ 32 := constantI S_ 32 0#32
  let main_v0 : IVec S2048x2 32 := broadcastInDim S2048x2 ![] bcast_S_S2048x2 main_c
  let main_v1 : IVec S2048x2 1 := cmpi .sge main_arg2 main_v0
  let main_c_0 : IVec S_ 32 := constantI S_ 32 64#32
  let main_v2 : IVec S2048x2 32 := broadcastInDim S2048x2 ![] bcast_S_S2048x2 main_c_0
  let main_v3 : IVec S2048x2 1 := cmpi .slt main_arg2 main_v2
  let main_v4 : IVec S2048x2 1 := andi main_v1 main_v3
  let main_c_1 : IVec S_ 1 := constantI S_ 1 1#1
  let main_v5 : IVec S_ 1 := (fun x v => Host.reduce IntOp.andi x v reducesTo_S2048x2_S_d0_1 h_S_) main_v4 main_c_1
  let main_v6 : FVec F S2048x1024 .f32 := Host.absf main_arg0
  let main_cst : FVec F S_ .f32 := constant S_ .f32 0x7F800000#32
  let main_v7 : FVec F S2048x1024 .f32 := broadcastInDim S2048x1024 ![] bcast_S_S2048x1024 main_cst
  let main_v8 : IVec S2048x1024 1 := cmpf .olt main_v6 main_v7
  let main_c_2 : IVec S_ 1 := constantI S_ 1 1#1
  let main_v9 : IVec S_ 1 := (fun x v => Host.reduce IntOp.andi x v reducesTo_S2048x1024_S_d0_1 h_S_) main_v8 main_c_2
  let main_v10 : FVec F S1024x64 .f32 := Host.absf main_arg1
  let main_cst_3 : FVec F S_ .f32 := constant S_ .f32 0x7F800000#32
  let main_v11 : FVec F S1024x64 .f32 := broadcastInDim S1024x64 ![] bcast_S_S1024x64 main_cst_3
  let main_v12 : IVec S1024x64 1 := cmpf .olt main_v10 main_v11
  let main_c_4 : IVec S_ 1 := constantI S_ 1 1#1
  let main_v13 : IVec S_ 1 := (fun x v => Host.reduce IntOp.andi x v reducesTo_S1024x64_S_d0_1 h_S_) main_v12 main_c_4
  let main_v14 : IVec S_ 1 := andi main_v9 main_v13
  let main_v15 : IVec S_ 1 := andi main_v5 main_v14
  main_v15
-- ==== Kernel.lean ====
abbrev S2048x1024 : Shape := ⟨2, ![2048, 1024]⟩
abbrev S1024x64 : Shape := ⟨2, ![1024, 64]⟩
abbrev S2048x2 : Shape := ⟨2, ![2048, 2]⟩
abbrev S8x1024x1024 : Shape := ⟨3, ![8, 1024, 1024]⟩
abbrev S256x1024 : Shape := ⟨2, ![256, 1024]⟩
abbrev S7x256x1024 : Shape := ⟨3, ![7, 256, 1024]⟩
abbrev S2x256x1024 : Shape := ⟨3, ![2, 256, 1024]⟩
abbrev S2048x8 : Shape := ⟨2, ![2048, 8]⟩
abbrev S7 : Shape := ⟨1, ![7]⟩
abbrev S_ : Shape := ⟨0, ![]⟩
abbrev S2048x64 : Shape := ⟨2, ![2048, 64]⟩
abbrev S2048 : Shape := ⟨1, ![2048]⟩
abbrev S2048x1 : Shape := ⟨2, ![2048, 1]⟩
abbrev S64x8 : Shape := ⟨2, ![64, 8]⟩
abbrev S256x8 : Shape := ⟨2, ![256, 8]⟩
abbrev S256x1 : Shape := ⟨2, ![256, 1]⟩
abbrev S1x1024x1024 : Shape := ⟨3, ![1, 1024, 1024]⟩
abbrev S1024x1024 : Shape := ⟨2, ![1024, 1024]⟩
abbrev S1x256x1024 : Shape := ⟨3, ![1, 256, 1024]⟩
abbrev S1 : Shape := ⟨1, ![1]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x64, .f32⟩
  | .hbm, ⟨2, _⟩ => ⟨S2048x2, .i32⟩
  | .hbm, ⟨3, _⟩ => ⟨S8x1024x1024, .f32⟩
  | .hbm, ⟨4, _⟩ => ⟨S256x1024, .f32⟩
  | .local _ .vmem, ⟨0, _⟩ => ⟨S2048x1024, .f32⟩
  | .local _ .vmem, ⟨1, _⟩ => ⟨S1024x64, .f32⟩
  | .local _ .vmem, ⟨2, _⟩ => ⟨S2048x2, .i32⟩
  | .local _ .vmem, ⟨3, _⟩ => ⟨S8x1024x1024, .f32⟩
  | .local _ .vmem, ⟨4, _⟩ => ⟨S256x1024, .f32⟩
  | .local _ .vmem, ⟨5, _⟩ => ⟨S7x256x1024, .f32⟩
  | .local _ .vmem, ⟨6, _⟩ => ⟨S2x256x1024, .f32⟩
  | .local _ .vmem, ⟨7, _⟩ => ⟨S2048x8, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_24 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_22 : BitVec 32 := 8#32
  let v52 : BitVec 32 := Scalar.addi v2 c8_i32_22
  let c1_i32_23 : BitVec 32 := 1#32
  let v53 : BitVec 32 := Scalar.subi v52 c1_i32_23
  let v54 : BitVec 32 := Scalar.subi v53 c0_i32_24
  let c8_i32_25 : BitVec 32 := 8#32
  let v55 : BitVec 32 := Scalar.remsi v54 c8_i32_25
  let c256_i32 : BitVec 32 := 256#32
  let v56 : BitVec 32 := Scalar.muli v55 c256_i32
  let v57 : Index := Scalar.indexCast v56
  let c0_26 : Index := 0#32
  ![v57.toNat, 0]
def k0_off2 (d0 : Dev nD) (c0_i32_24 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_22 : BitVec 32 := 8#32
  let v52 : BitVec 32 := Scalar.addi v2 c8_i32_22
  let c1_i32_23 : BitVec 32 := 1#32
  let v53 : BitVec 32 := Scalar.subi v52 c1_i32_23
  let v54 : BitVec 32 := Scalar.subi v53 c0_i32_24
  let c8_i32_25 : BitVec 32 := 8#32
  let v55 : BitVec 32 := Scalar.remsi v54 c8_i32_25
  let c256_i32 : BitVec 32 := 256#32
  let v56 : BitVec 32 := Scalar.muli v55 c256_i32
  let v60 : Index := Scalar.indexCast v56
  let c0_27 : Index := 0#32
  ![v60.toNat, 0]
def k0_dev3 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_62 : BitVec 32 := 1#32
  let v122 : BitVec 32 := Scalar.muli v7 c1_i32_62
  let v123 : BitVec 32 := Scalar.addi c0_i32_63 v122
  v123.toNat
def k0_dev4 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_128 : BitVec 32 := 1#32
  let v213 : BitVec 32 := Scalar.muli v7 c1_i32_128
  let v214 : BitVec 32 := Scalar.addi c0_i32_129 v213
  v214.toNat
def k0_dev5 (d0 : Dev nD) : Nat :=
  let c0_i32_204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_203 : BitVec 32 := 1#32
  let v310 : BitVec 32 := Scalar.muli v7 c1_i32_203
  let v311 : BitVec 32 := Scalar.addi c0_i32_204 v310
  v311.toNat
def k0_dev6 (d0 : Dev nD) : Nat :=
  let c0_i32_278 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_277 : BitVec 32 := 1#32
  let v407 : BitVec 32 := Scalar.muli v7 c1_i32_277
  let v408 : BitVec 32 := Scalar.addi c0_i32_278 v407
  v408.toNat
def k0_dev7 (d0 : Dev nD) : Nat :=
  let c0_i32_352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_351 : BitVec 32 := 1#32
  let v504 : BitVec 32 := Scalar.muli v7 c1_i32_351
  let v505 : BitVec 32 := Scalar.addi c0_i32_352 v504
  v505.toNat
def k0_dev8 (d0 : Dev nD) : Nat :=
  let c0_i32_426 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_425 : BitVec 32 := 1#32
  let v601 : BitVec 32 := Scalar.muli v7 c1_i32_425
  let v602 : BitVec 32 := Scalar.addi c0_i32_426 v601
  v602.toNat
def k0_dev9 (d0 : Dev nD) : Nat :=
  let c0_i32_500 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_499 : BitVec 32 := 1#32
  let v698 : BitVec 32 := Scalar.muli v7 c1_i32_499
  let v699 : BitVec 32 := Scalar.addi c0_i32_500 v698
  v699.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_505 : BitVec 32 := 256#32
  let v708 : BitVec 32 := Scalar.muli v2 c256_i32_505
  let v709 : Index := Scalar.indexCast v708
  let c0_506 : Index := 0#32
  ![v709.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_505 : BitVec 32 := 256#32
  let v708 : BitVec 32 := Scalar.muli v2 c256_i32_505
  let v712 : Index := Scalar.indexCast v708
  let c0_507 : Index := 0#32
  ![v712.toNat, 0]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x1024 : Shape := ⟨2, ![2048, 1024]⟩
abbrev S1024x64 : Shape := ⟨2, ![1024, 64]⟩
abbrev S2048x2 : Shape := ⟨2, ![2048, 2]⟩
abbrev S64x1024x1024 : Shape := ⟨3, ![64, 1024, 1024]⟩
abbrev S2048x64 : Shape := ⟨2, ![2048, 64]⟩
abbrev S_ : Shape := ⟨0, ![]⟩
abbrev S2048 : Shape := ⟨1, ![2048]⟩
abbrev S2048x1 : Shape := ⟨2, ![2048, 1]⟩
abbrev S2048x1x1 : Shape := ⟨3, ![2048, 1, 1]⟩
abbrev S1 : Shape := ⟨1, ![1]⟩
abbrev S1x1x1 : Shape := ⟨3, ![1, 1, 1]⟩
abbrev S2048x1024x1024 : Shape := ⟨3, ![2048, 1024, 1024]⟩

abbrev nBuf : Space → Nat
  | .hbm => 94
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x64, .f32⟩
  | .hbm, ⟨2, _⟩ => ⟨S2048x2, .i32⟩
  | .hbm, ⟨3, _⟩ => ⟨S64x1024x1024, .f32⟩
  | .hbm, ⟨4, _⟩ => ⟨S2048x64, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x64, .f32⟩
  | .hbm, ⟨9, _⟩ => ⟨S2048x64, .f32⟩
  | .hbm, ⟨10, _⟩ => ⟨S2048x64, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x64, .f32⟩
  | .hbm, ⟨15, _⟩ => ⟨S2048x64, .f32⟩
  | .hbm, ⟨16, _⟩ => ⟨S2048x1, .i32⟩
  | .hbm, ⟨17, _⟩ => ⟨S2048, .i32⟩
  | .hbm, ⟨18, _⟩ => ⟨S2048x1, .i32⟩
  | .hbm, ⟨19, _⟩ => ⟨S2048, .i32⟩
  | .hbm, ⟨20, _⟩ => ⟨S2048x1, .i32⟩
  | .hbm, ⟨21, _⟩ => ⟨S_, .i32⟩
  | .hbm, ⟨22, _⟩ => ⟨S2048x1, .i32⟩
  | .hbm, ⟨23, _⟩ => ⟨S2048x1, .i1⟩
  | .hbm, ⟨24, _⟩ => ⟨S_, .i32⟩
  | .hbm, ⟨25, _⟩ => ⟨S2048x1, .i32⟩
  | .hbm, ⟨26, _⟩ => ⟨S2048x1, .i32⟩
  | .hbm, ⟨27, _⟩ => ⟨S2048x1, .i32⟩
  | .hbm, ⟨28, _⟩ => ⟨S2048x1x1, .i32⟩
  | .hbm, ⟨29, _⟩ => ⟨S1, .i32⟩
  | .hbm, ⟨30, _⟩ => ⟨S_, .i32⟩
  | .hbm, ⟨31, _⟩ => ⟨S2048x1x1, .i32⟩
  | .hbm, ⟨32, _⟩ => ⟨S2048x1x1, .i1⟩
  | .hbm, ⟨33, _⟩ => ⟨S1x1x1, .i32⟩
  | .hbm, ⟨34, _⟩ => ⟨S2048x1x1, .i32⟩
  | .hbm, ⟨35, _⟩ => ⟨S2048x1x1, .i1⟩
  | .hbm, ⟨36, _⟩ => ⟨S2048x1x1, .i1⟩
  | .hbm, ⟨37, _⟩ => ⟨S_, .i1⟩
  | .hbm, ⟨38, _⟩ => ⟨S2048x1, .i1⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S2048x1, .i32⟩
  | .hbm, ⟨44, _⟩ => ⟨S_, .i32⟩
  | .hbm, ⟨45, _⟩ => ⟨S2048x1, .i32⟩
  | .hbm, ⟨46, _⟩ => ⟨S2048x1, .i1⟩
  | .hbm, ⟨47, _⟩ => ⟨S_, .i32⟩
  | .hbm, ⟨48, _⟩ => ⟨S2048x1, .i32⟩
  | .hbm, ⟨49, _⟩ => ⟨S2048x1, .i32⟩
  | .hbm, ⟨50, _⟩ => ⟨S2048x1, .i32⟩
  | .hbm, ⟨51, _⟩ => ⟨S2048x1x1, .i32⟩
  | .hbm, ⟨52, _⟩ => ⟨S1, .i32⟩
  | .hbm, ⟨53, _⟩ => ⟨S_, .i32⟩
  | .hbm, ⟨54, _⟩ => ⟨S2048x1x1, .i32⟩
  | .hbm, ⟨55, _⟩ => ⟨S2048x1x1, .i1⟩
  | .hbm, ⟨56, _⟩ => ⟨S1x1x1, .i32⟩
  | .hbm, ⟨57, _⟩ => ⟨S2048x1x1, .i32⟩
  | .hbm, ⟨58, _⟩ => ⟨S2048x1x1, .i1⟩
  | .hbm, ⟨59, _⟩ => ⟨S2048x1x1, .i1⟩
  | .hbm, ⟨60, _⟩ => ⟨S_, .i1⟩
  | .hbm, ⟨61, _⟩ => ⟨S2048x1, .i1⟩
  | .hbm, ⟨62, _⟩ => ⟨S2048x1, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S2048x1, .f32⟩
  | .hbm, ⟨67, _⟩ => ⟨S_, .i32⟩
  | .hbm, ⟨68, _⟩ => ⟨S2048, .i32⟩
  | .hbm, ⟨69, _⟩ => ⟨S2048, .i1⟩
  | .hbm, ⟨70, _⟩ => ⟨S_, .i32⟩
  | .hbm, ⟨71, _⟩ => ⟨S2048, .i32⟩
  | .hbm, ⟨72, _⟩ => ⟨S2048, .i32⟩
  | .hbm, ⟨73, _⟩ => ⟨S2048, .i32⟩
  | .hbm, ⟨74, _⟩ => ⟨S2048x1, .i32⟩
  | .hbm, ⟨75, _⟩ => ⟨S2048x1024x1024, .f32⟩
  | .hbm, ⟨76, _⟩ => ⟨S2048x1024, .f32⟩
  | .hbm, ⟨77, _⟩ => ⟨S_, .i32⟩
  | .hbm, ⟨78, _⟩ => ⟨S2048, .i32⟩
  | .hbm, ⟨79, _⟩ => ⟨S2048, .i1⟩
  | .hbm, ⟨80, _⟩ => ⟨S_, .i32⟩
  | .hbm, ⟨81, _⟩ => ⟨S2048, .i32⟩
  | .hbm, ⟨82, _⟩ => ⟨S2048, .i32⟩
  | .hbm, ⟨83, _⟩ => ⟨S2048, .i32⟩
  | .hbm, ⟨84, _⟩ => ⟨S2048x1, .i32⟩
  | .hbm, ⟨85, _⟩ => ⟨S2048x1024x1024, .f32⟩
  | .hbm, ⟨86, _⟩ => ⟨S2048x1024, .f32⟩
  | .hbm, ⟨87, _⟩ => ⟨S2048x1, .f32⟩
  | .hbm, ⟨88, _⟩ => ⟨S2048x1024, .f32⟩
  | .hbm, ⟨89, _⟩ => ⟨S2048x1024, .f32⟩
  | .hbm, ⟨90, _⟩ => ⟨S2048x1, .f32⟩
  | .hbm, ⟨91, _⟩ => ⟨S2048x1024, .f32⟩
  | .hbm, ⟨92, _⟩ => ⟨S2048x1024, .f32⟩
  | .hbm, ⟨93, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v15 : Ref sig .tc := ⟨.hbm, 42, rfl⟩
abbrev main_v16 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_cst : Ref sig .tc := ⟨.hbm, 63, rfl⟩
abbrev main_call1_v14 : Ref sig .tc := ⟨.hbm, 64, rfl⟩
abbrev main_v17 : Ref sig .tc := ⟨.hbm, 65, rfl⟩
abbrev main_v18 : Ref sig .tc := ⟨.hbm, 66, rfl⟩
abbrev main_c : Ref sig .tc := ⟨.hbm, 67, rfl⟩
abbrev main_v19 : Ref sig .tc := ⟨.hbm, 68, rfl⟩
abbrev main_v20 : Ref sig .tc := ⟨.hbm, 69, rfl⟩
abbrev main_c_1 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_c_2 : Ref sig .tc := ⟨.hbm, 77, rfl⟩
abbrev main_v27 : Ref sig .tc := ⟨.hbm, 78, rfl⟩
abbrev main_v28 : Ref sig .tc := ⟨.hbm, 79, rfl⟩
abbrev main_c_3 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩

abbrev nD : Nat := 1
abbrev τ : Topo := Topo.v7x

variable {F : FTy → Type} [FloatOps F]
-- ==== Proof.Common.lean ====
/-
# The ring of eight devices: cells, schedule, contents, levels

Every device keeps eight experts. For each of the eight row chunks it computes its experts' share; the shares of one
chunk travel once around the ring, every device adding its own on the way, and end on the device that owns the chunk.

Semaphores of device `c` (`nxt c` is its right neighbour, `prv c` its left one):

* the barrier semaphore: `nxt c` and `prv c` signal one unit each, `c` waits for two. The unit of `nxt c` carries
  `nxt c`'s seven landing slots (so that `c` may copy into them); the unit of `prv c` carries nothing.
* send semaphore `s`: paid by `c`'s own copy of step `s`; it hands back the staging slot the copy read.
* receive semaphore `s`: paid by `prv c`'s copy of step `s`; it hands `c` its landing slot `s`, holding the sum that
  `prv c` had collected by step `s` (`ringVal`).

All of it happens once: each cell has a single round.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ring's ghost state, duties named by `Bool`. -/
abbrev UB : Type := URounds (GSem nD τ sig) Bool
/-- The pipeline's ghost state beside the ring's. -/
abbrev UU : Type := UR sig nD τ × UB

local notation "𝕄" => MT nD τ sig Unit (Elt F) ℕ UU ℕ

/-- Where the pipeline's ghost state sits. -/
abbrev EP : Emb (UR sig nD τ) (MT nD τ sig Unit (Elt F) ℕ UU ℕ) := embL
/-- Where the ring's ghost state sits. -/
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## The ring -/

set_option backward.proofsInPublic true in
/-- The right neighbour. -/
def nxt (c : Dev nD) : Dev nD := ⟨(c.val + 1) % 8, Nat.mod_lt _ (by decide)⟩
set_option backward.proofsInPublic true in
/-- The left neighbour. -/
def prv (c : Dev nD) : Dev nD := ⟨(c.val + 7) % 8, Nat.mod_lt _ (by decide)⟩

/-- The right neighbour's left neighbour is the device itself; -/
theorem prv_nxt (c : Dev nD) : prv (nxt c) = c := by revert c; decide
/-- and so is the left neighbour's right neighbour. -/
theorem nxt_prv (c : Dev nD) : nxt (prv c) = c := by revert c; decide

/-- One step around the ring. -/
def ring : Dev nD ≃ Dev nD := ⟨nxt, prv, prv_nxt, nxt_prv⟩

/-! ## Memrefs and cells -/

/-- The staged rows. -/
abbrev xM : Memref sig .tc .vmem S2048x1024 .f32 := Memref.whole cc0_stg0_0
/-- The staged router weights. -/
abbrev rM : Memref sig .tc .vmem S1024x64 .f32 := Memref.whole cc0_stg1_0
/-- The staged routing table. -/
abbrev iM : Memref sig .tc .vmem S2048x2 .i32 := Memref.whole cc0_stg2_0
/-- The staged expert matrices. -/
abbrev eM : Memref sig .tc .vmem S8x1024x1024 .f32 := Memref.whole cc0_stg3_0
/-- The staged result. -/
abbrev oM : Memref sig .tc .vmem S256x1024 .f32 := Memref.whole cc0_stg4_0
/-- The landing buffer: seven slots. -/
abbrev cM : Memref sig .tc .vmem S7x256x1024 .f32 := Memref.whole cc0_scratch0
/-- The buffer copies leave from: two slots. -/
abbrev sM : Memref sig .tc .vmem S2x256x1024 .f32 := Memref.whole cc0_scratch1
/-- The gates. -/
abbrev gM : Memref sig .tc .vmem S2048x8 .f32 := Memref.whole cc0_scratch2

/-- Every landing slot lies in its buffer. -/
theorem inb_c (s : Fin 7) : ∀ a, (![s.val, 0, 0] : Fin 3 → ℕ) a + S1x256x1024.size a ≤ S7x256x1024.size a := by
  revert s; decide
/-- Every staging slot lies in its buffer. -/
theorem inb_s (b : Fin 2) : ∀ a, (![b.val, 0, 0] : Fin 3 → ℕ) a + S1x256x1024.size a ≤ S2x256x1024.size a := by
  revert b; decide

/-- The rectangle of landing slot `s`. -/
abbrev cRect (s : Fin 7) : Rect S7x256x1024 := Rect.unit (s := S7x256x1024) ![s.val, 0, 0] S1x256x1024.size (inb_c s)
/-- The rectangle of staging slot `b`. -/
abbrev sRect (b : Fin 2) : Rect S2x256x1024 := Rect.unit (s := S2x256x1024) ![b.val, 0, 0] S1x256x1024.size (inb_s b)

/-- Landing slot `s`. -/
abbrev cSlot (s : Fin 7) : Memref sig .tc .vmem S256x1024 .f32 :=
  (cM.slice (cRect s) (fun _ => rfl)).squeeze S256x1024 squeezes_S1x256x1024_S256x1024
/-- Staging slot `b`. -/
abbrev sSlot (b : Fin 2) : Memref sig .tc .vmem S256x1024 .f32 :=
  (sM.slice (sRect b) (fun _ => rfl)).squeeze S256x1024 squeezes_S1x256x1024_S256x1024

/-- The staging slot step `s` uses: the two alternate. -/
abbrev par (s : Fin 7) : Fin 2 := ⟨s.val % 2, Nat.mod_lt _ (by decide)⟩

/-- The runtime's barrier semaphore of collective id 0. -/
abbrev barS : Sem sig := (SemArray.scalar (sig.barrier 0 rfl) : Sems sig S_).sem
set_option backward.proofsInPublic true in
/-- The kernel's own fourteen DMA semaphores: seven send, then seven receive. -/
abbrev oSem (k : Fin 14) : DmaSem sig := ⟨5 + k.val, by have := k.isLt; show 5 + k.val < 19; omega⟩
set_option backward.proofsInPublic true in
/-- The send semaphore of step `s`. -/
abbrev kS (s : Fin 7) : Fin 14 := ⟨s.val, by omega⟩
set_option backward.proofsInPublic true in
/-- The receive semaphore of step `s`. -/
abbrev kR (s : Fin 7) : Fin 14 := ⟨s.val + 7, by omega⟩

/-- Device `c`'s barrier semaphore. -/
abbrev barCell (c : Dev nD) : GSem nD τ sig := ((c : Thread nD τ), .reg barS)
/-- Device `c`'s own semaphore `k`. -/
abbrev ownCell (c : Dev nD) (k : Fin 14) : GSem nD τ sig := ((c : Thread nD τ), .dma (oSem k))
/-- Device `c`'s send semaphore of step `s`. -/
abbrev sendCell (c : Dev nD) (s : Fin 7) : GSem nD τ sig := ownCell c (kS s)
/-- Device `c`'s receive semaphore of step `s`. -/
abbrev recvCell (c : Dev nD) (s : Fin 7) : GSem nD τ sig := ownCell c (kR s)

/-- The own semaphores as the launch indexes them. -/
abbrev osem : Fin 14 → SemLoc sig := fun k => .dma (oSem k)
/-- All fifteen, the barrier first. -/
abbrev csem : Fin 15 → SemLoc sig := fun k => match k with
  | ⟨0, _⟩ => .reg barS
  | ⟨k + 1, h⟩ => .dma (oSem ⟨k, Nat.lt_of_succ_lt_succ h⟩)
/-- The fifteen semaphores of every device. -/
abbrev kcell (ck : Dev nD × Fin 15) : GSem nD τ sig := ((ck.1 : Thread nD τ), csem ck.2)

/-- The credit of one slot's copy. -/
abbrev N : ℕ := (cSlot 0).view.dmaCredit
/-- A copy credits at least one unit. -/
theorem N_pos : 0 < N := View.dmaCredit_pos _ (by decide)

/-! ## Contents -/

/-- The blocks the pipeline brings in: rows, router weights, expert indices, expert weights. -/
def xIn (c : Dev nD) : (cc0_stg0_0 : Ref sig .tc).ty.Contents (Elt F) :=
  (win0_0.blk (0 : Fin 1)).view.read (Elt F) (m ((c : Thread nD τ).loc main_arg0))
@[inherit_doc xIn] def rIn (c : Dev nD) : (cc0_stg1_0 : Ref sig .tc).ty.Contents (Elt F) :=
  (win0_1.blk (0 : Fin 1)).view.read (Elt F) (m ((c : Thread nD τ).loc main_arg1))
@[inherit_doc xIn] def iIn (c : Dev nD) : (cc0_stg2_0 : Ref sig .tc).ty.Contents (Elt F) :=
  (win0_2.blk (0 : Fin 1)).view.read (Elt F) (m ((c : Thread nD τ).loc main_arg2))
@[inherit_doc xIn] def eIn (c : Dev nD) : (cc0_stg3_0 : Ref sig .tc).ty.Contents (Elt F) :=
  (win0_3.blk (0 : Fin 1)).view.read (Elt F) (m ((c : Thread nD τ).loc main_arg3))

/-- One expert's product: the rows `xs` scaled by the gate column at `off`, times the expert's matrix. -/
def expertDot (xs : FVec F S256x1024 .f32) (g : Vec F S256x8 .f32) (off : Fin 2 → ℕ) (h : S256x8.Slices off S256x1)
    (w : Vec F S1x1024x1024 .f32) : FVec F S256x1024 .f32 :=
  matmul dot_S256x1024_S1024x1024_S256x1024_1_0_0_1_n_n none
    (mulf xs (broadcastTo S256x1024 (extractStridedSlice S256x1 off g h) broadcasts_S256x1_S256x1024))
    (shapeCast S1024x1024 w shapeCasts_S1x1024x1024_S1024x1024) (constant S256x1024 .f32 0x00000000#32)

/-- Eight experts' products added up from zero, one after the other. -/
def chunkVal (x : Vec F S256x1024 .f32) (g : Vec F S256x8 .f32) (w0 w1 w2 w3 w4 w5 w6 w7 : Vec F S1x1024x1024 .f32) :
    FVec F S256x1024 .f32 :=
  let xs := shapeCast S256x1024 x shapeCasts_S256x1024_S256x1024
  addf (addf (addf (addf (addf (addf (addf (addf (broadcast S256x1024 (Scalar.ofBits .f32 0x00000000#32))
    (expertDot xs g ![0, 0] slices_S256x8_o0_0_S256x1 w0))
    (expertDot xs g ![0, 1] slices_S256x8_o0_1_S256x1 w1))
    (expertDot xs g ![0, 2] slices_S256x8_o0_2_S256x1 w2))
    (expertDot xs g ![0, 3] slices_S256x8_o0_3_S256x1 w3))
    (expertDot xs g ![0, 4] slices_S256x8_o0_4_S256x1 w4))
    (expertDot xs g ![0, 5] slices_S256x8_o0_5_S256x1 w5))
    (expertDot xs g ![0, 6] slices_S256x8_o0_6_S256x1 w6))
    (expertDot xs g ![0, 7] slices_S256x8_o0_7_S256x1 w7)

/-- The word the kernel computes for its place in the ring. -/
abbrev devWord (c : Dev nD) : BitVec 32 := Scalar.remsi (Scalar.divsi (Dev.word c) 1#32) 8#32

/-- The gates device `c` computes for its own eight experts, from the rows, the router weights and the two index
    columns. -/
def gateVal (c : Dev nD) (x : Vec F S2048x1024 .f32) (r : Vec F S1024x64 .f32) (i0 i1 : Vec F S2048x1 .i32) : FVec F S2048x8 .f32 :=
  k0_pay4 (devWord c) (k0_pay1 x r) (iota .tc S2048x64 32 [1] iota_S2048x64_d1_w32) (k0_pay2 i0) (k0_pay3 i1)

/-- The gates on device `c`. -/
def gAt (c : Dev nD) : (cc0_scratch2 : Ref sig .tc).ty.Contents (Elt F) :=
  gateVal c
    (xM.view.readAt (Elt F) (Rect.unit (s := S2048x1024) ![0, 0] S2048x1024.size inb_S2048x1024_S2048x1024_0_0).toLoadRect (xIn m c))
    (rM.view.readAt (Elt F) (Rect.unit (s := S1024x64) ![0, 0] S1024x64.size inb_S1024x64_S1024x64_0_0).toLoadRect (rIn m c))
    (iM.view.readAt (Elt F) (Rect.unit (s := S2048x2) ![0, 0] S2048x1.size inb_S2048x2_S2048x1_0_0).toLoadRect (iIn m c))
    (iM.view.readAt (Elt F) (Rect.unit (s := S2048x2) ![0, 1] S2048x1.size inb_S2048x2_S2048x1_0_1).toLoadRect (iIn m c))

/-- The rows of `x` at `off` times the gates at `off'`, through all eight experts of device `c`. -/
def partAt (c : Dev nD) (off off' : Fin 2 → ℕ) (h : ∀ a, off a + S256x1024.size a ≤ S2048x1024.size a)
    (h' : ∀ a, off' a + S256x8.size a ≤ S2048x8.size a) : FVec F S256x1024 .f32 :=
  chunkVal (xM.view.readAt (Elt F) (Rect.unit (s := S2048x1024) off S256x1024.size h).toLoadRect (xIn m c))
    (gM.view.readAt (Elt F) (Rect.unit (s := S2048x8) off' S256x8.size h').toLoadRect (gAt m c))
    (eM.view.readAt (Elt F) (Rect.unit (s := S8x1024x1024) ![0, 0, 0] S1x1024x1024.size inb_S8x1024x1024_S1x1024x1024_0_0_0).toLoadRect (eIn m c))
    (eM.view.readAt (Elt F) (Rect.unit (s := S8x1024x1024) ![1, 0, 0] S1x1024x1024.size inb_S8x1024x1024_S1x1024x1024_1_0_0).toLoadRect (eIn m c))
    (eM.view.readAt (Elt F) (Rect.unit (s := S8x1024x1024) ![2, 0, 0] S1x1024x1024.size inb_S8x1024x1024_S1x1024x1024_2_0_0).toLoadRect (eIn m c))
    (eM.view.readAt (Elt F) (Rect.unit (s := S8x1024x1024) ![3, 0, 0] S1x1024x1024.size inb_S8x1024x1024_S1x1024x1024_3_0_0).toLoadRect (eIn m c))
    (eM.view.readAt (Elt F) (Rect.unit (s := S8x1024x1024) ![4, 0, 0] S1x1024x1024.size inb_S8x1024x1024_S1x1024x1024_4_0_0).toLoadRect (eIn m c))
    (eM.view.readAt (Elt F) (Rect.unit (s := S8x1024x1024) ![5, 0, 0] S1x1024x1024.size inb_S8x1024x1024_S1x1024x1024_5_0_0).toLoadRect (eIn m c))
    (eM.view.readAt (Elt F) (Rect.unit (s := S8x1024x1024) ![6, 0, 0] S1x1024x1024.size inb_S8x1024x1024_S1x1024x1024_6_0_0).toLoadRect (eIn m c))
    (eM.view.readAt (Elt F) (Rect.unit (s := S8x1024x1024) ![7, 0, 0] S1x1024x1024.size inb_S8x1024x1024_S1x1024x1024_7_0_0).toLoadRect (eIn m c))

/-- Device `c`'s share of the chunk it passes on at step `s`. -/
def stepPart (c : Dev nD) (s : Fin 7) : FVec F S256x1024 .f32 :=
  partAt m c (k0_off1 c (BitVec.ofNat 32 s.val)) (k0_off2 c (BitVec.ofNat 32 s.val)) (k0_off1_inb c s) (k0_off2_inb c s)

/-- Device `c`'s share of its own chunk. -/
def ownPart (c : Dev nD) : FVec F S256x1024 .f32 := partAt m c (k0_off3 c) (k0_off4 c) (k0_off3_inb c) (k0_off4_inb c)

/-- What device `c` sends at step `s`: its share, and from step 1 on what arrived from the left one step before. -/
def ringVal : ℕ → Dev nD → FVec F S256x1024 .f32
  | 0, c => stepPart m c 0
  | s + 1, c => addf (stepPart m c (Fin.ofNat 7 (s + 1))) (ringVal s (prv c))

/-- The kernel's result on device `c`. -/
def outAt (c : Dev nD) : (cc0_stg4_0 : Ref sig .tc).ty.Contents (Elt F) := addf (ringVal m 6 (prv c)) (ownPart m c)

/-! ## Points-to assertions -/

/-- Landing slot `s` of device `c` holds `f` there. -/
def cPts (c : Dev nD) (s : Fin 7) (f : Buf (Elt F) ((cSlot s).view.loc (c : Thread nD τ))) : sProp 𝕄 :=
  (cSlot s).view.loc (c : Thread nD τ) ↦[(cSlot s).view.set]{fullShare} f
/-- Staging slot `b` of device `c` holds `f` there. -/
def sPts (c : Dev nD) (b : Fin 2) (f : Buf (Elt F) ((sSlot b).view.loc (c : Thread nD τ))) : sProp 𝕄 :=
  (sSlot b).view.loc (c : Thread nD τ) ↦[(sSlot b).view.set]{fullShare} f

/-- Some contents in landing slot `s`. -/
def cAny (c : Dev nD) (s : Fin 7) : sProp 𝕄 := iprop(∃ f, cPts c s f)
/-- Some contents in staging slot `b`. -/
def sAny (c : Dev nD) (b : Fin 2) : sProp 𝕄 := iprop(∃ f, sPts c b f)

/-- The right neighbour's seven landing slots. -/
def barPay (c : Dev nD) : sProp 𝕄 := bigSep Finset.univ fun s : Fin 7 => cAny (nxt c) s
/-- Landing slot `s`, holding what the left neighbour sent at step `s`. -/
def recvPay (c : Dev nD) (s : Fin 7) : sProp 𝕄 :=
  iprop(∃ f, ⌜(cSlot s).view.read (Elt F) f = ringVal m s.val (prv c)⌝ ∗ cPts c s f)

omit [FloatOps F] in
instance cPts_storable (c : Dev nD) (s) (f) : BI.Storable (upEmb : UEmb _ 𝕄) (cPts (F := F) c s f) := by unfold cPts; infer_instance
omit [FloatOps F] in
instance sPts_storable (c : Dev nD) (b) (f) : BI.Storable (upEmb : UEmb _ 𝕄) (sPts (F := F) c b f) := by unfold sPts; infer_instance
omit [FloatOps F] in
instance cAny_storable (c : Dev nD) (s) : BI.Storable (upEmb : UEmb _ 𝕄) (cAny (F := F) c s) := by unfold cAny; infer_instance
omit [FloatOps F] in
instance sAny_storable (c : Dev nD) (b) : BI.Storable (upEmb : UEmb _ 𝕄) (sAny (F := F) c b) := by unfold sAny; infer_instance
omit [FloatOps F] in
instance barPay_storable (c : Dev nD) : BI.Storable (upEmb : UEmb _ 𝕄) (barPay (F := F) c) := by unfold barPay; infer_instance
instance recvPay_storable (c : Dev nD) (s) : BI.Storable (upEmb : UEmb _ 𝕄) (recvPay (F := F) m c s) := by unfold recvPay; infer_instance

/-! ## The schedule -/

/-- Which signals a semaphore of device `c` gets in its one round. -/
def dutyOf : SemLoc sig → Finset Bool
  | .reg _ => Finset.univ
  | .dma q => if 5 ≤ q.val then {false} else ∅

/-- How much each of them brings. -/
def amtOf : SemLoc sig → ℕ
  | .reg _ => 1
  | .dma _ => N

/-- What each of them hands over. -/
def payOf (c : Dev nD) (sm : SemLoc sig) (d : Bool) : sProp 𝕄 :=
  match sm with
  | .reg _ => if d then barPay c else iprop(emp)
  | .dma q => if h : 5 ≤ q.val ∧ q.val < 12 then sAny c (par ⟨q.val - 5, by omega⟩)
      else if h : 12 ≤ q.val ∧ q.val < 19 then recvPay m c ⟨q.val - 12, by omega⟩ else iprop(emp)

/-- The ring's schedule: one round at every cell. -/
def ringRd : Rounds.Schedule (GSem nD τ sig) Bool 𝕄 where
  duties g r := if r = 0 ∧ g.1.2 = .tc then dutyOf g.2 else ∅
  unitless _ := False
  amount g _ _ := amtOf g.2
  payload g _ d := payOf m g.1.1 g.2 d
  amount_pos g _ _ _ := by
    rcases g with ⟨t, sm⟩
    cases sm
    · exact Nat.one_pos
    · exact N_pos

instance ringRd_payload_storable (g : GSem nD τ sig) (r : ℕ) (d : Bool) :
    BI.Storable (upEmb : UEmb _ 𝕄) ((ringRd (F := F) m).payload g r d) := by
  show BI.Storable upEmb (payOf m g.1.1 g.2 d)
  unfold payOf
  split
  · split <;> infer_instance
  · (repeat' split) <;> infer_instance

section Sched
variable (c : Dev nD) (s : Fin 7)

/-- Both duties of a barrier are paid in round 0. -/
theorem duties_bar : (ringRd (F := F) m).duties (barCell c) 0 = Finset.univ := by
  dsimp only [ringRd]; exact if_pos ⟨rfl, rfl⟩
/-- An own semaphore has one duty in round 0. -/
theorem duties_own (k : Fin 14) : (ringRd (F := F) m).duties (ownCell c k) 0 = {false} := by
  dsimp only [ringRd]; exact (if_pos ⟨rfl, rfl⟩).trans (if_pos (Nat.le_add_right 5 _))
/-- No round after the first has a duty. -/
theorem duties_later (g : GSem nD τ sig) : ∀ r, 1 ≤ r → (ringRd (F := F) m).duties g r = ∅ :=
  fun r hr => by dsimp only [ringRd]; exact if_neg fun h => by omega

/-- Each barrier duty is one unit. -/
theorem amount_bar (d : Bool) : (ringRd (F := F) m).amount (barCell c) 0 d = 1 := rfl
/-- The duty of an own semaphore is one copy. -/
theorem amount_own (k : Fin 14) (d : Bool) : (ringRd (F := F) m).amount (ownCell c k) 0 d = N := rfl

/-- A barrier expects two units. -/
theorem expect_bar : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
/-- An own semaphore expects one copy. -/
theorem expect_own (k : Fin 14) : (ringRd (F := F) m).expect (ownCell c k) 0 = N := by
  unfold Schedule.expect Schedule.amountOf; rw [duties_own, Finset.sum_singleton, amount_own]

/-- The right neighbour's barrier signal hands over its landing slots. -/
theorem payload_bar_true : (ringRd (F := F) m).payload (barCell c) 0 true = barPay c := rfl
/-- The left neighbour's barrier signal hands over nothing. -/
theorem payload_bar_false : (ringRd (F := F) m).payload (barCell c) 0 false = iprop(emp) := rfl
/-- A send credit hands back the staging slot. -/
theorem payload_send (d : Bool) : (ringRd (F := F) m).payload (sendCell c s) 0 d = sAny c (par s) := by
  have hs : 5 ≤ 5 + s.val ∧ 5 + s.val < 12 := by have := s.isLt; omega
  refine (dif_pos hs).trans ?_
  have : (⟨5 + s.val - 5, by have := s.isLt; omega⟩ : Fin 7) = s := Fin.ext (Nat.add_sub_cancel_left _ _)
  exact congrArg (fun s => sAny c (par s)) this
/-- A receive credit hands over the landing slot with its contents. -/
theorem payload_recv (d : Bool) : (ringRd (F := F) m).payload (recvCell c s) 0 d = recvPay m c s := by
  have h1 : ¬ (5 ≤ 5 + (s.val + 7) ∧ 5 + (s.val + 7) < 12) := by omega
  have h2 : 12 ≤ 5 + (s.val + 7) ∧ 5 + (s.val + 7) < 19 := by have := s.isLt; omega
  refine (dif_neg h1).trans ((dif_pos h2).trans ?_)
  have : (⟨5 + (s.val + 7) - 12, by have := s.isLt; omega⟩ : Fin 7) = s := Fin.ext (by show 5 + (s.val + 7) - 12 = s.val; omega)
  exact congrArg (fun s => recvPay m c s) this

/-- What the barrier wait brings: the right neighbour's landing slots. -/
theorem rest_bar : bigSep ((ringRd (F := F) m).duties (barCell c) 0 \ ∅) (fun d => (ringRd (F := F) m).payload (barCell c) 0 d)
    = iprop(emp ∗ barPay c) := by
  rw [Finset.sdiff_empty, duties_bar, bigSep_univ_eq_bigSepL [false, true] (by decide) (by decide), bigSepL_cons_cons, bigSepL_singleton,
    payload_bar_false, payload_bar_true]
  rfl
/-- What a wait on an own semaphore brings: its one payload. -/
theorem rest_own (k : Fin 14) : bigSep ((ringRd (F := F) m).duties (ownCell c k) 0 \ ∅) (fun d => (ringRd (F := F) m).payload (ownCell c k) 0 d)
    = (ringRd (F := F) m).payload (ownCell c k) 0 false := by
  rw [Finset.sdiff_empty, duties_own, bigSep_singleton]

end Sched

/-! ## What is owed, and the levels -/

/-- The receive credits device `c` still owes its right neighbour when `k` steps are left. -/
def OR (c : Dev nD) : ℕ → CellTallies nD τ sig Unit
  | 0 => 0
  | k + 1 => OR c k + tallyAt (recvCell (nxt c) ⟨6 - k, by omega⟩) () N

/-- With the right neighbour's barrier unit; -/
def O₁ (c : Dev nD) : CellTallies nD τ sig Unit := OR c 7 + tallyAt (barCell (nxt c)) () 1
/-- with both neighbours' barrier units: what device `c` owes at launch. -/
def O₀ (c : Dev nD) : CellTallies nD τ sig Unit := O₁ c + tallyAt (barCell (prv c)) () 1

/-- Every semaphore of a device's core has the one level index. -/
def L (g : GSem nD τ sig) : Finset Unit := if g.1.2 = .tc then {()} else ∅
/-- Staging and send semaphores at 0, the barrier at 1, receive semaphore `s` at `2 + s`. -/
def lvOf : SemLoc sig → ℕ
  | .reg _ => 1
  | .dma q => if q.val < 12 then 0 else q.val - 10
@[inherit_doc lvOf] def lv (g : GSem nD τ sig) (_ : Unit) : ℕ := lvOf g.2

/-- No other thread has levels. -/
theorem L_of_ne (g : GSem nD τ sig) (h : g.1.2 ≠ .tc) : L g = ∅ := if_neg h
/-- The core has one. -/
theorem L_tc (c : Dev nD) (sm : SemLoc sig) : L ((c : Thread nD τ), sm) = {()} := if_pos rfl

/-- Whatever is owed with `k` steps left is a receive credit of a later step. -/
theorem OR_pos {c : Dev nD} {k : ℕ} {g : GSem nD τ sig} {u : Unit} (h : 0 < OR c k g u) :
    ∃ s : Fin 7, 7 ≤ s.val + k ∧ g = recvCell (nxt c) s := by
  induction k with
  | zero => exact absurd h (Nat.lt_irrefl 0)
  | succ k ih =>
    rw [OR, Pi.add_apply, Finsupp.add_apply, tallyAt_apply] at h
    by_cases hg : g = recvCell (nxt c) ⟨6 - k, by omega⟩ ∧ u = ()
    · exact ⟨⟨6 - k, by omega⟩, by show 7 ≤ 6 - k + (k + 1); omega, hg.1⟩
    · rw [if_neg hg, Nat.add_zero] at h
      obtain ⟨s, hs, e⟩ := ih h
      exact ⟨s, by omega, e⟩

/-- What a device owes at launch is owed to receive cells of its right neighbour or to a neighbour's barrier. -/
theorem O₀_pos {c : Dev nD} {g : GSem nD τ sig} {u : Unit} (h : 0 < O₀ c g u) :
    (∃ s : Fin 7, g = recvCell (nxt c) s) ∨ g = barCell (nxt c) ∨ g = barCell (prv c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  obtain ⟨s, _, e⟩ := OR_pos (show 0 < OR c 7 g u from h)
  exact hn.1 ⟨s, e⟩

/-- The level of receive semaphore `s`. -/
theorem lv_recv (c : Dev nD) (s : Fin 7) (u : Unit) : lv (recvCell c s) u = 2 + s.val := by
  show (if 5 + (s.val + 7) < 12 then 0 else 5 + (s.val + 7) - 10) = 2 + s.val
  rw [if_neg (by omega)]; omega

/-- A semaphore of level at most `cut` may be waited on while only receive credits of higher level are owed. -/
theorem mayWait_OR (c : Dev nD) (sm : SemLoc sig) (k cut : ℕ) (hlow : lvOf sm ≤ cut) (hcut : cut + k < 9) :
    (levAts L lv : sProp 𝕄) ⊢ MayWait (c : Thread nD τ) sm () (OR c k) :=
  MayOwe.of_cut (L := L) (lev := lv) cut (fun p hp => by rw [Finset.mem_singleton.mp hp, L_tc]; exact Finset.mem_singleton_self _)
    (fun g u hg => by obtain ⟨s, _, rfl⟩ := OR_pos hg; exact Finset.mem_singleton_self _)
    (fun p hp => by rw [Finset.mem_singleton.mp hp]; exact hlow)
    (fun g u hg => by obtain ⟨s, hs, rfl⟩ := OR_pos hg; rw [lv_recv]; omega)

/-- The pipeline's own waits: its semaphores lie below everything that is owed at launch. -/
theorem mayWait_stage (c : Dev nD) (q : DmaSem sig) (hq : q.val < 12) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨s, rfl⟩ | rfl | rfl <;> exact Finset.mem_singleton_self _)
      (fun p hp => by rw [Finset.mem_singleton.mp hp]; exact le_of_eq (if_pos hq))
      (fun g u hg => by
        rcases O₀_pos hg with ⟨s, rfl⟩ | rfl | rfl
        · rw [lv_recv]; omega
        · exact Nat.one_pos
        · exact Nat.one_pos)
  · rw [MayWait_zero]; iintro -; iempintro

/-! ## Ghost state and the pipeline's data -/

/-- The call has one grid step; -/
theorem cfg0_N : cfg0.N = 1 := by decide
/-- that step, -/
def t₀ : Fin cfg0.N := ⟨0, by rw [cfg0_N]; decide⟩
/-- and there is no other. -/
theorem fin_N (t : Fin cfg0.N) : t = t₀ := by
  obtain ⟨t, ht⟩ := t; have := cfg0_N; exact Fin.ext (by simp only [t₀]; omega)

/-- Every cell's invariant, under the names `K`, and that each stands at round 0. -/
def records (K : Dev nD × Fin 15 → ℕ) : sProp 𝕄 :=
  iprop((bigSep Finset.univ fun ck : Dev nD × Fin 15 => cellInv ER (ringRd m) (K ck) (kcell ck))
    ∗ bigSep Finset.univ fun ck : Dev nD × Fin 15 => reached ER (kcell ck) 0)

instance records_persistent (K : Dev nD × Fin 15 → ℕ) : BI.Persistent (records m K) := by unfold records; infer_instance

/-- The duties device `c` pays: its neighbours' barrier units, its own send credits, its right neighbour's receive credits. -/
def payToks (c : Dev nD) : sProp 𝕄 :=
  iprop(dutyTok ER (barCell (nxt c)) 0 false ∗ dutyTok ER (barCell (prv c)) 0 true
    ∗ (bigSep Finset.univ fun s : Fin 7 => dutyTok ER (sendCell c s) 0 false)
    ∗ (bigSep Finset.univ fun s : Fin 7 => dutyTok ER (recvCell (nxt c) s) 0 false))

/-- Device `c`'s positions at its cells, and the duties it pays. -/
def linear (c : Dev nD) : sProp 𝕄 :=
  iprop((bigSep Finset.univ fun k : Fin 15 => atPos ER (kcell (c, k)) 0 ∅ 0) ∗ payToks c)

/-- What device `c`'s body starts from: the ring's state, the credits for its barrier and its seven receive cells, and
    the levels. -/
def start (c : Dev nD) : sProp 𝕄 :=
  iprop((∃ K, records m K ∗ linear c) ∗ cred (tallyAt (barCell c) () 2)
    ∗ (bigSep Finset.univ fun s : Fin 7 => cred (tallyAt (recvCell c s) () N)) ∗ levAts L lv)

/-- The gate buffer at some contents. -/
def gAny (c : Dev nD) : sProp 𝕄 := iprop(∃ f : Buf (Elt F) ((c : Thread nD τ).loc cc0_scratch2), ((c : Thread nD τ).loc cc0_scratch2) ↦{fullShare} f)

/-- The three scratch buffers, slot by slot, at some contents. -/
def scratch (c : Dev nD) : sProp 𝕄 :=
  iprop((bigSep Finset.univ fun s : Fin 7 => cAny c s) ∗ (bigSep Finset.univ fun b : Fin 2 => sAny c b) ∗ gAny c)

/-- Before the body: the start and the scratch buffers. -/
def Φ₀ (c : Dev nD) : sProp 𝕄 := iprop(start m c ∗ scratch c)
/-- After it: the scratch buffers, and every semaphore of the ring closed at zero. -/
def Φ₁ (c : Dev nD) : sProp 𝕄 := iprop(scratch c ∗ bigSep Finset.univ fun k : Fin 15 => semVal (kcell (c, k)) 0)

/-- The pipeline's data: inputs stay, the output window ends at `outAt`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => rIn m c
    | ⟨2, _⟩ => iIn m c
    | ⟨3, _⟩ => eIn m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- The kernel has no loops to bound. -/
abbrev 𝒱₀ : Variants := Variants.none

/-- A product over seven, written out. -/
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
/-- A product over two, written out. -/
theorem bigSep_fin2 (Φ : Fin 2 → sProp 𝕄) : bigSep Finset.univ Φ = iprop(Φ 0 ∗ Φ 1) :=
  bigSep_univ_eq_bigSepL [0, 1] (by decide) (by decide) Φ
/-- A product over fifteen, written out. -/
theorem bigSep_fin15 (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

end Cert.MoeRing

end
-- ==== Proof.Steps.lean ====
/-
# The effects of the ring, one rule each

Loads and stores of whole buffers and of slots, the copy of one step, and the two waits, each stated once for every
step `s`.
-/
module

public import proofs.«01_k».proof.Proof.Common
public import Idealize.ShloMosaic.Lib.Pipeline.Value

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Reading and writing a slot -/

omit [FloatOps F] in
/-- A load of landing slot `s`, cast to two axes, reads the slot. -/
theorem cast_read_c (s : Fin 7) (f : (cc0_scratch0 : Ref sig .tc).ty.Contents (Elt F)) :
    shapeCast S256x1024 (cM.view.readAt (Elt F) (cRect s).toLoadRect f) shapeCasts_S1x256x1024_S256x1024 = (cSlot s).view.read (Elt F) f :=
  rfl

omit [FloatOps F] in
/-- Staging slot `b` reads back what was stored into it. -/
theorem read_stored (b : Fin 2) (f : (cc0_scratch1 : Ref sig .tc).ty.Contents (Elt F)) (w : FVec F S1x256x1024 .f32) :
    (sSlot b).view.read (Elt F) ((sM.access (sRect b)).write (Elt F) f w Finset.univ)
      = shapeCast S256x1024 w shapeCasts_S1x256x1024_S256x1024 := by
  show shapeCast S256x1024 ((sM.access (sRect b)).read (Elt F) _) shapeCasts_S1x256x1024_S256x1024 = _
  rw [View.read_write_univ]

/-- A stored slot made of a share and the slot that arrived is the next value of the ring. -/
theorem ring_step (c : Dev nD) (s : Fin 7) {f : (cc0_scratch0 : Ref sig .tc).ty.Contents (Elt F)}
    (hf : (cSlot s).view.read (Elt F) f = ringVal m s.val (prv c)) {r : FVec F S256x1024 .f32} {w : FVec F S1x256x1024 .f32}
    (hr : r = shapeCast S256x1024 w shapeCasts_S1x256x1024_S256x1024)
    (hw : w = shapeCast S1x256x1024 (addf (stepPart m c (Fin.ofNat 7 (s.val + 1)))
      (shapeCast S256x1024 (cM.view.readAt (Elt F) (cRect s).toLoadRect f) shapeCasts_S1x256x1024_S256x1024)) shapeCasts_S256x1024_S1x256x1024) :
    r = ringVal m (s.val + 1) c := by
  rw [hr, hw, cast_read_c, hf, shapeCast_shapeCast]; rfl

/-- The first stored slot is the first value of the ring. -/
theorem ring_zero (c : Dev nD) {r : FVec F S256x1024 .f32} {w : FVec F S1x256x1024 .f32}
    (hr : r = shapeCast S256x1024 w shapeCasts_S1x256x1024_S256x1024)
    (hw : w = shapeCast S1x256x1024 (stepPart m c 0) shapeCasts_S256x1024_S1x256x1024) :
    r = ringVal m 0 c := by
  rw [hr, hw, shapeCast_shapeCast]; rfl

omit [FloatOps F] in
/-- The cells of a landing slot, squeezed or not. -/
theorem set_c (s : Fin 7) : (cSlot s).view.set = (cM.access (cRect s)).set := View.set_reshape _ _
omit [FloatOps F] in
/-- The cells of a staging slot, squeezed or not. -/
theorem set_s (b : Fin 2) : (sSlot b).view.set = (sM.access (sRect b)).set := View.set_reshape _ _

/-! ## Records -/

/-- One cell's invariant, of the records. -/
theorem inv_at (K : Dev nD × Fin 15 → ℕ) (ck : Dev nD × Fin 15) : records m K ⊢ cellInv ER (ringRd m) (K ck) (kcell ck) := by
  have h : (bigSep Finset.univ fun ck : Dev nD × Fin 15 => (cellInv ER (ringRd m) (K ck) (kcell ck) : sProp 𝕄))
      ⊢ cellInv ER (ringRd m) (K ck) (kcell ck) := bigSep_elim (Finset.mem_univ ck)
  unfold records
  iintro ⟨#HI, -⟩
  iapply h; iexact HI
/-- That one cell stands at round 0, of the records. -/
theorem reached_at (K : Dev nD × Fin 15 → ℕ) (ck : Dev nD × Fin 15) : records m K ⊢ reached ER (kcell ck) 0 := by
  have h : (bigSep Finset.univ fun ck : Dev nD × Fin 15 => (reached ER (kcell ck) 0 : sProp 𝕄)) ⊢ reached ER (kcell ck) 0 :=
    bigSep_elim (Finset.mem_univ ck)
  unfold records
  iintro ⟨-, #HR⟩
  iapply h; iexact HR

/-- Where send cell `s` and receive cell `s` stand among the fifteen. -/
abbrev iS (s : Fin 7) : Fin 15 := ⟨s.val + 1, by omega⟩
@[inherit_doc iS] abbrev iR (s : Fin 7) : Fin 15 := ⟨s.val + 7 + 1, by omega⟩
@[inherit_doc iS] abbrev iO (k : Fin 14) : Fin 15 := ⟨k.val + 1, by omega⟩

/-- Device `c` owes `O`, having waited on some semaphores. -/
def Ow (c : Dev nD) (O : CellTallies nD τ sig Unit) : sProp 𝕄 := iprop(∃ W, owes (c : Thread nD τ) O W)

section Rules
variable (K : Dev nD × Fin 15 → ℕ) (c : Dev nD)

omit [FloatOps F] in
/-- The credit step `s` pays off, with `k` steps left after it. -/
theorem OR_succ (k : ℕ) (s : Fin 7) (hk : k + s.val = 6) : OR c (k + 1) = OR c k + tallyAt (recvCell (nxt c) s) () N := by
  have hs : s = ⟨6 - k, by omega⟩ := Fin.ext (by show s.val = 6 - k; omega)
  rw [hs]; rfl

/-- The copy of step `s`: the staging slot leaves with its contents, the right neighbour's landing slot is filled, and one
    receive credit less is owed. -/
theorem wp_send_step (s : Fin 7) (n : Dev nD) (hn : n = nxt c) (k : ℕ) (hk : k + s.val = 6)
    {src : Memref sig .tc .vmem S256x1024 .f32} (hsrcE : src = sSlot (par s))
    {dst : Memref sig (Dev.tc n : Thread nD τ).2.kind .vmem S256x1024 .f32} (hdstE : dst = cSlot s)
    {qS qR : DmaSem sig} (hqS : qS = oSem (kS s)) (hqR : qR = oSem (kR s))
    {hsc : dst.view.ref.isScScratch = false}
    {hsrc : src.view.WordExact} {hdst : dst.view.WordExact}
    {hsem : DmaTarget.Typed .vmem (.dma qR) (.remote (Dev.tc n : Thread nD τ) dst (.dma qS) hsc)}
    {α : Type} {Q : α → sProp 𝕄} {kt : PUnit → Prog (TpuEff nD τ sig (Elt F) Λ₀ .tc) α}
    (fs : Buf (Elt F) ((sSlot (par s)).view.loc (c : Thread nD τ)))
    (hfs : (sSlot (par s)).view.read (Elt F) fs = ringVal m s.val c) :
    iprop(records m K ∗ sPts c (par s) fs ∗ cAny (nxt c) s ∗ Ow c (OR c (k + 1))
        ∗ dutyTok ER (sendCell c s) 0 false ∗ dutyTok ER (recvCell (nxt c) s) 0 false)
      ⊢ iprop(((cred (tallyAt (sendCell c s) () N) ∗ Ow c (OR c k)) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma src (.remote (Dev.tc n : Thread nD τ) dst (.dma qS) hsc) (.dma qR) hsrc hdst hsem) kt) Q) := by
  subst hn hsrcE hdstE hqS hqR
  unfold Ow cAny
  iintro ⟨#HR, Hs, ⟨%fn, Hc⟩, ⟨%W, HO⟩, HtS, HtR⟩ Hk
  iapply (Rounds.wp_send_pointsTo 𝒱₀ ER (ringRd m) (c : Thread nD τ) none (κ₁ := K (c, iS s)) (κ₂ := K (nxt c, iR s))
    (r₁ := 0) (r₂ := 0) (d₁ := false) (d₂ := false) (fd := fn) (fs := fs) (q := fullShare)
    (by rw [duties_own]; exact Finset.mem_singleton_self _) (by rw [duties_own]; exact Finset.mem_singleton_self _)
    () () N rfl (amount_own m c (kS s) false) (amount_own m (nxt c) (kR s) false) (OR c k) (OR_succ c k s hk) (W := W)
    (by rw [payload_send]; unfold sAny sPts; iintro H; iexists fs; iexact H)
    (by
      rw [payload_recv]; unfold recvPay cPts; iintro H
      iexists ((cSlot s).view.write (Elt F) fn ((sSlot (par s)).view.read (Elt F) fs) Finset.univ)
      isplitr
      · ipureintro; rw [prv_nxt]; exact (View.read_write_univ _ _).trans hfs
      · iexact H)) $$ [Hs Hc HO HtS HtR]
  · isplitr; · iapply (inv_at m K (c, iS s)); iexact HR
    isplitr; · iapply (inv_at m K (nxt c, iR s)); iexact HR
    isplitl [Hs]; · unfold sPts; iexact Hs
    isplitl [Hc]; · unfold cPts; iexact Hc
    isplitl [HO]; · iexact HO
    isplitl [HtS]; · iexact HtS
    isplitr; · iapply (reached_at m K (c, iS s)); iexact HR
    isplitl [HtR]; · iexact HtR
    iapply (reached_at m K (nxt c, iR s)); iexact HR
  iintro ⟨Hcr, HO⟩
  iapply Hk
  isplitl [Hcr]; · iexact Hcr
  iexists W; iexact HO

/-- A wait on own semaphore `i`: its payload, and the semaphore closed at zero. -/
theorem wp_wait_own (i : Fin 14) (k cut : ℕ) (hlow : lvOf (.dma (oSem i)) ≤ cut) (hcut : cut + k < 9)
    {q : DmaSem sig} (hq : q = oSem i) {P : sProp 𝕄} (hP : (ringRd (F := F) m).payload (ownCell c i) 0 false = P)
    {sp sp' : Space} {s s' : Shape} {e e' : EltTy} {src : Memref sig .tc sp s e} {κ' : Kind} {dst : Memref sig κ' sp' s' e'}
    {h1 : src.view.WordExact} {h2 : dst.view.WordExact} (hN : dst.view.dmaCredit = N)
    {α : Type} {Q : α → sProp 𝕄} {kt : PUnit → Prog (TpuEff nD τ sig (Elt F) Λ₀ .tc) α} :
    iprop(records m K ∗ levAts L lv ∗ cred (tallyAt (ownCell c i) () N) ∗ Ow c (OR c k) ∗ atPos ER (ownCell c i) 0 ∅ 0)
      ⊢ iprop(((Ow c (OR c k) ∗ semVal (ownCell c i) 0 ∗ P) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q src dst h1 h2) kt) Q) := by
  subst hq hP
  unfold Ow
  iintro ⟨#HR, #Hlev, Hc, ⟨%W, HO⟩, Hat⟩ Hk
  iapply (Rounds.wp_wait_rest_token 𝒱₀ ER (ringRd m) (c : Thread nD τ) none (κ := K (c, iO i)) (sm := .dma (oSem i)) (k' := N)
      (fun K' => (wpE_waitDma2_eq 𝒱₀ (c : Thread nD τ) none Set.univ K').trans (by rw [hN])) (Set.mem_univ _) () (O := OR c k) (W := W)
      (R := 0) (m := 0) (T := ∅) (by rw [Nat.zero_add, expect_own])) $$ [Hc HO Hat]
  · isplitr; · iapply (inv_at m K (c, iO i)); iexact HR
    isplitl [Hc]; · iexact Hc
    isplitl [HO]; · iexact HO
    isplitr; · iapply (mayWait_OR c _ k cut hlow hcut); iexact Hlev
    iexact Hat
  iintro ⟨HO, Hat, -, Hpay⟩
  ihave Hp := (Entails.of_eq (rest_own m c i)) $$ Hpay
  imod (Rounds.cell_close ER (ringRd m) (Set.mem_univ (K (c, iO i))) (fun h => h) (R := 0 + 1) (duties_later m (ownCell c i))) $$ [Hat] with Hz
  · isplitr; · iapply (inv_at m K (c, iO i)); iexact HR
    iexact Hat
  iapply Hk
  isplitl [HO]; · iexists _; iexact HO
  isplitl [Hz]; · iexact Hz
  iexact Hp

/-- A load of landing slot `s`. -/
theorem wp_load_c (s : Fin 7) (f : Buf (Elt F) ((cSlot s).view.loc (c : Thread nD τ))) {hl : cM.view.LoadsAt (cRect s).toLoadRect}
    {α : Type} {Q : α → sProp 𝕄} {kt : ((cRect s).toLoadRect.shape.Idx → Elt F .f32) → Prog (TpuEff nD τ sig (Elt F) Λ₀ .tc) α} :
    cPts c s f ⊢ iprop((cPts c s f -∗ wp frame (wpE (defs₀ (F := F)) 𝒱₀ (c : Thread nD τ) none) Set.univ (kt (cM.view.readAt (Elt F) (cRect s).toLoadRect f)) Q)
      -∗ wp frame (wpE (defs₀ (F := F)) 𝒱₀ (c : Thread nD τ) none) Set.univ (.op (.load cM (cRect s).toLoadRect hl) kt) Q) :=
  wp_load_rect 𝒱₀ (c : Thread nD τ) none Set.univ (m := cM) (r := cRect s) (set_c s).symm.subset

/-- A load of staging slot `b`: its value is not used. -/
theorem wp_load_s (b : Fin 2) (f : Buf (Elt F) ((sSlot b).view.loc (c : Thread nD τ))) {hl : sM.view.LoadsAt (sRect b).toLoadRect}
    {α : Type} {Q : α → sProp 𝕄} {kt : ((sRect b).toLoadRect.shape.Idx → Elt F .f32) → Prog (TpuEff nD τ sig (Elt F) Λ₀ .tc) α} :
    sPts c b f ⊢ iprop((sPts c b f -∗ wp frame (wpE (defs₀ (F := F)) 𝒱₀ (c : Thread nD τ) none) Set.univ (kt (sM.view.readAt (Elt F) (sRect b).toLoadRect f)) Q)
      -∗ wp frame (wpE (defs₀ (F := F)) 𝒱₀ (c : Thread nD τ) none) Set.univ (.op (.load sM (sRect b).toLoadRect hl) kt) Q) :=
  wp_load_rect 𝒱₀ (c : Thread nD τ) none Set.univ (m := sM) (r := sRect b) (set_s b).symm.subset

/-- A store into staging slot `b`: the slot then reads what was stored. -/
theorem wp_store_s (b : Fin 2) (f : Buf (Elt F) ((sSlot b).view.loc (c : Thread nD τ))) {w : (sRect b).shape.Idx → Elt F .f32}
    {hx : (sM.access (sRect b)).Stores Finset.univ} {hm}
    {α : Type} {Q : α → sProp 𝕄} {kt : PUnit → Prog (TpuEff nD τ sig (Elt F) Λ₀ .tc) α} :
    sPts c b f ⊢ iprop(((∃ f', ⌜(sSlot b).view.read (Elt F) f' = shapeCast S256x1024 w shapeCasts_S1x256x1024_S256x1024⌝ ∗ sPts c b f')
          -∗ wp frame (wpE (defs₀ (F := F)) 𝒱₀ (c : Thread nD τ) none) Set.univ (kt ⟨⟩) Q)
      -∗ wp frame (wpE (defs₀ (F := F)) 𝒱₀ (c : Thread nD τ) none) Set.univ (.op (.store sM (sRect b) w Finset.univ hx hm) kt) Q) := by
  iintro H Hk
  unfold sPts
  iapply (wp_store 𝒱₀ (c : Thread nD τ) none Set.univ (m := sM) (r := sRect b) (Mk := Finset.univ) (set_s b).symm.subset) $$ H
  iintro H
  iapply Hk
  iexists _
  isplitr
  · ipureintro; exact read_stored b f w
  · iexact H

/-- The wait on receive cell `s`: landing slot `s` arrives, holding what the left neighbour sent. -/
theorem wp_wait_recv (s : Fin 7) (k : ℕ) (hlow : lvOf (.dma (oSem (kR s))) ≤ s.val + 2) (hk : s.val + 2 + k < 9)
    {q : DmaSem sig} (hq : q = oSem (kR s))
    {sp : Space} {z : Shape} {e : EltTy} {src : Memref sig .tc sp z e} {dst : Memref sig .tc .vmem S256x1024 .f32} (hd : dst = cSlot s)
    {h1 : src.view.WordExact} {h2 : dst.view.WordExact}
    {α : Type} {Q : α → sProp 𝕄} {kt : PUnit → Prog (TpuEff nD τ sig (Elt F) Λ₀ .tc) α} :
    iprop(records m K ∗ levAts L lv ∗ cred (tallyAt (recvCell c s) () N) ∗ Ow c (OR c k) ∗ atPos ER (ownCell c (kR s)) 0 ∅ 0)
      ⊢ iprop(((Ow c (OR c k) ∗ semVal (ownCell c (kR s)) 0
            ∗ ∃ f, ⌜(cSlot s).view.read (Elt F) f = ringVal m s.val (prv c)⌝ ∗ cPts c s f)
          -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q src dst h1 h2) kt) Q) := by
  subst hd
  exact wp_wait_own m K c (kR s) k (s.val + 2) hlow hk hq (payload_recv m c s false) (src := src) (dst := cSlot s) (h1 := h1) (h2 := h2) rfl

/-- The wait on send cell `s`: the staging slot read by transfer `s` comes back. -/
theorem wp_wait_send (s : Fin 7) (k : ℕ) (hlow : lvOf (.dma (oSem (kS s))) ≤ 0) (hk : 0 + k < 9)
    {q : DmaSem sig} (hq : q = oSem (kS s))
    {sp : Space} {z : Shape} {e : EltTy} {src : Memref sig .tc sp z e} {dst : Memref sig .tc .vmem S256x1024 .f32} (hd : dst = sSlot (par s))
    {h1 : src.view.WordExact} {h2 : dst.view.WordExact}
    {α : Type} {Q : α → sProp 𝕄} {kt : PUnit → Prog (TpuEff nD τ sig (Elt F) Λ₀ .tc) α} :
    iprop(records m K ∗ levAts L lv ∗ cred (tallyAt (sendCell c s) () N) ∗ Ow c (OR c k) ∗ atPos ER (ownCell c (kS s)) 0 ∅ 0)
      ⊢ iprop(((Ow c (OR c k) ∗ semVal (ownCell c (kS s)) 0 ∗ ∃ f, sPts c (par s) f)
          -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q src dst h1 h2) kt) Q) := by
  subst hd
  exact wp_wait_own m K c (kS s) k 0 hlow hk hq (payload_send m c s false) (src := src) (dst := sSlot (par s)) (h1 := h1) (h2 := h2) rfl

end Rules

end Cert.MoeRing

end
-- ==== Proof.Body.lean ====
/-
# One device's kernel body, effect by effect
-/
module

public import proofs.«01_k».proof.Proof.Steps

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The first barrier signal goes to the left neighbour. -/
theorem dev1_eq (c : Dev nD) : (⟨k0_dev1 c, k0_dev1_lt c⟩ : Dev nD) = prv c := Fin.ext (k0_dev1_eq c)
/-- The second goes to the right neighbour, as every copy does. -/
theorem dev2_eq (c : Dev nD) : (⟨k0_dev2 c, k0_dev2_lt c⟩ : Dev nD) = nxt c := Fin.ext (k0_dev2_eq c)

omit [FloatOps F] in
/-- The offsets of a whole load or store are zero. -/
theorem hz : (![0, 0] : Fin 2 → Nat) = fun _ => 0 := funext fun a => by fin_cases a <;> rfl

omit [FloatOps F] in
/-- A store over the whole gates buffer leaves what it stored. -/
theorem write_g (f w : (cc0_scratch2 : Ref sig .tc).ty.Contents (Elt F)) :
    ((gM : Memref sig .tc .vmem S2048x8 .f32).access (Rect.unit (s := S2048x8) ![0, 0] S2048x8.size inb_S2048x8_S2048x8_0_0) : View sig .tc _ _ _).write (Elt F) f w Finset.univ = w :=
  Memref.write_access_unit_zero_univ (Elt F) cc0_scratch2 hz _ f w
omit [FloatOps F] in
/-- A store over the whole result buffer leaves what it stored. -/
theorem write_o (f w : (cc0_stg4_0 : Ref sig .tc).ty.Contents (Elt F)) :
    ((oM : Memref sig .tc .vmem S256x1024 .f32).access (Rect.unit (s := S256x1024) ![0, 0] S256x1024.size inb_S256x1024_S256x1024_0_0) : View sig .tc _ _ _).write (Elt F) f w Finset.univ = w :=
  Memref.write_access_unit_zero_univ (Elt F) cc0_stg4_0 hz _ f w

/-- A whole buffer of device `c` at contents `X`. -/
abbrev whl (c : Dev nD) (b : Ref sig .tc) (X : Buf (Elt F) (((c : Dev nD) : Thread nD τ).loc b)) : sProp 𝕄 :=
  iprop((((c : Thread nD τ).loc b) ↦{fullShare} X))

/-- What the body starts from, the ring's names `K` fixed. -/
def bodyPre (K : Dev nD × Fin 15 → ℕ) (c : Dev nD) (fo : Buf (Elt F) (((c : Dev nD) : Thread nD τ).loc cc0_stg4_0)) : sProp 𝕄 :=
  iprop((records m K ∗ linear c ∗ cred (tallyAt (barCell c) () 2) ∗ (bigSep Finset.univ fun s : Fin 7 => cred (tallyAt (recvCell c s) () N)) ∗ levAts L lv)
    ∗ scratch c ∗ Ow c (O₀ c)
    ∗ whl c cc0_stg0_0 (xIn m c) ∗ whl c cc0_stg1_0 (rIn m c) ∗ whl c cc0_stg2_0 (iIn m c) ∗ whl c cc0_stg3_0 (eIn m c) ∗ whl c cc0_stg4_0 fo)

/-- What it ends in. -/
def bodyPost (c : Dev nD) : sProp 𝕄 :=
  iprop(Φ₁ c ∗ Ow c 0
    ∗ whl c cc0_stg0_0 (xIn m c) ∗ whl c cc0_stg1_0 (rIn m c) ∗ whl c cc0_stg2_0 (iIn m c) ∗ whl c cc0_stg3_0 (eIn m c) ∗ whl c cc0_stg4_0 (outAt m c))

/-- A store of all the gates. -/
theorem wp_store_g (c : Dev nD) (f w : Buf (Elt F) (((c : Dev nD) : Thread nD τ).loc cc0_scratch2))
    {hx : (gM.access (Rect.unit (s := S2048x8) ![0, 0] S2048x8.size inb_S2048x8_S2048x8_0_0)).Stores Finset.univ} {hm}
    {α : Type} {Q : α → sProp 𝕄} {kt : PUnit → Prog (TpuEff nD τ sig (Elt F) Λ₀ .tc) α} :
    whl c cc0_scratch2 f ⊢ iprop((whl c cc0_scratch2 w -∗ wp frame (wpE (defs₀ (F := F)) 𝒱₀ (c : Thread nD τ) none) Set.univ (kt ⟨⟩) Q)
      -∗ wp frame (wpE (defs₀ (F := F)) 𝒱₀ (c : Thread nD τ) none) Set.univ
          (.op (.store gM (Rect.unit (s := S2048x8) ![0, 0] S2048x8.size inb_S2048x8_S2048x8_0_0) w Finset.univ hx hm) kt) Q) := by
  iintro H Hk
  iapply (wp_store 𝒱₀ (c : Thread nD τ) none Set.univ (m := gM) (r := Rect.unit (s := S2048x8) ![0, 0] S2048x8.size inb_S2048x8_S2048x8_0_0)
    (Mk := Finset.univ) (Finset.subset_univ _)) $$ H
  iintro H
  rw [write_g]
  iapply Hk; iexact H

/-- A store of the whole output. -/
theorem wp_store_o (c : Dev nD) (f w : Buf (Elt F) (((c : Dev nD) : Thread nD τ).loc cc0_stg4_0))
    {hx : (oM.access (Rect.unit (s := S256x1024) ![0, 0] S256x1024.size inb_S256x1024_S256x1024_0_0)).Stores Finset.univ} {hm}
    {α : Type} {Q : α → sProp 𝕄} {kt : PUnit → Prog (TpuEff nD τ sig (Elt F) Λ₀ .tc) α} :
    whl c cc0_stg4_0 f ⊢ iprop((whl c cc0_stg4_0 w -∗ wp frame (wpE (defs₀ (F := F)) 𝒱₀ (c : Thread nD τ) none) Set.univ (kt ⟨⟩) Q)
      -∗ wp frame (wpE (defs₀ (F := F)) 𝒱₀ (c : Thread nD τ) none) Set.univ
          (.op (.store oM (Rect.unit (s := S256x1024) ![0, 0] S256x1024.size inb_S256x1024_S256x1024_0_0) w Finset.univ hx hm) kt) Q) := by
  iintro H Hk
  iapply (wp_store 𝒱₀ (c : Thread nD τ) none Set.univ (m := oM) (r := Rect.unit (s := S256x1024) ![0, 0] S256x1024.size inb_S256x1024_S256x1024_0_0)
    (Mk := Finset.univ) (Finset.subset_univ _)) $$ H
  iintro H
  rw [write_o]
  iapply Hk; iexact H

omit [FloatOps F] in
/-- A debt with a known set of waits is one with some set of waits. -/
theorem Ow_intro (c : Dev nD) (O : CellTallies nD τ sig Unit) (W) : owes (c : Thread nD τ) O W ⊢ Ow (F := F) c O := by
  unfold Ow; iintro H; iexists W; iexact H

/-- What the last store writes is the device's output. -/
theorem out_eq (c : Dev nD) {f : (cc0_scratch0 : Ref sig .tc).ty.Contents (Elt F)}
    (hf : (cSlot 6).view.read (Elt F) f = ringVal m 6 (prv c)) :
    addf (shapeCast S256x1024 (cM.view.readAt (Elt F) (cRect 6).toLoadRect f) shapeCasts_S1x256x1024_S256x1024) (ownPart m c) = outAt m c := by
  rw [cast_read_c, hf]; rfl

/-- The pieces held at the end are what the body must leave. -/
theorem post_intro (c : Dev nD) :
    iprop((cAny c 0 ∗ cAny c 1 ∗ cAny c 2 ∗ cAny c 3 ∗ cAny c 4 ∗ cAny c 5 ∗ cAny c 6) ∗ (sAny c 0 ∗ sAny c 1) ∗ whl c cc0_scratch2 (gAt m c)
      ∗ (semVal (barCell c) 0
        ∗ semVal (ownCell c (kS 0)) 0 ∗ semVal (ownCell c (kS 1)) 0 ∗ semVal (ownCell c (kS 2)) 0 ∗ semVal (ownCell c (kS 3)) 0 ∗ semVal (ownCell c (kS 4)) 0 ∗ semVal (ownCell c (kS 5)) 0 ∗ semVal (ownCell c (kS 6)) 0
        ∗ semVal (ownCell c (kR 0)) 0 ∗ semVal (ownCell c (kR 1)) 0 ∗ semVal (ownCell c (kR 2)) 0 ∗ semVal (ownCell c (kR 3)) 0 ∗ semVal (ownCell c (kR 4)) 0 ∗ semVal (ownCell c (kR 5)) 0 ∗ semVal (ownCell c (kR 6)) 0)
      ∗ Ow c (OR c 0) ∗ whl c cc0_stg0_0 (xIn m c) ∗ whl c cc0_stg1_0 (rIn m c) ∗ whl c cc0_stg2_0 (iIn m c) ∗ whl c cc0_stg3_0 (eIn m c)
      ∗ whl c cc0_stg4_0 (outAt m c)) ⊢ bodyPost m c := by
  unfold bodyPost Φ₁ scratch gAny
  rw [bigSep_fin7, bigSep_fin2, bigSep_fin15]
  iintro ⟨Hm, Hs, Hg, Hz, HO, Hrest⟩
  isplitl [Hm Hs Hg Hz]
  · isplitl [Hm Hs Hg]
    · isplitl [Hm]; · iexact Hm
      isplitl [Hs]; · iexact Hs
      iexists _; iexact Hg
    iexact Hz
  isplitl [HO]; · iexact HO
  iexact Hrest

set_option maxHeartbeats 4000000 in
/-- The body on device `c`: from what it is given, it runs without fault and leaves what it must, the result buffer at `outAt`. -/
theorem sound_body (K : Dev nD × Fin 15 → ℕ) (c : Dev nD) (fo : Buf (Elt F) (((c : Dev nD) : Thread nD τ).loc cc0_stg4_0)) (Kt : PUnit → sProp 𝕄) :
    iprop(bodyPre m K c fo ∗ (bodyPost m c -∗ Kt ⟨⟩))
      ⊢ wp frame (wpE (defs₀ (F := F)) 𝒱₀ c none) Set.univ
          (cc0_body xM (Memref.isWhole_whole _) rM (Memref.isWhole_whole _) iM (Memref.isWhole_whole _) eM (Memref.isWhole_whole _)
            oM (Memref.isWhole_whole _) cM (Memref.isWhole_whole _) sM (Memref.isWhole_whole _) gM (Memref.isWhole_whole _)
            cc0_scratch3 cc0_scratch4) Kt := by
  simp only [cc0_body_eq_skeleton]; unfold cc0_body_skel
  simp only [k0_part24_eq_skeleton]; unfold k0_part24_skel
  simp only [k0_part1_eq_skeleton]; unfold k0_part1_skel
  simp only [semSignalWord, semWaitWord, Prog.lift, Prog.bind_op, Prog.bind_ret, Prog.pure_eq_ret, wp_deviceId]
  unfold bodyPre linear payToks scratch gAny sAny Ow
  rw [bigSep_fin15, bigSep_fin7, bigSep_fin7, bigSep_fin7, bigSep_fin2]
  iintro ⟨⟨⟨#HR, ⟨⟨HaB, HaS0, HaS1, HaS2, HaS3, HaS4, HaS5, HaS6, HaR0, HaR1, HaR2, HaR3, HaR4, HaR5, HaR6⟩,
      HtN, HtP, ⟨HtS0, HtS1, HtS2, HtS3, HtS4, HtS5, HtS6⟩, HtR0, HtR1, HtR2, HtR3, HtR4, HtR5, HtR6⟩,
      HcB, ⟨Hc0, Hc1, Hc2, Hc3, Hc4, Hc5, Hc6⟩, #Hlev⟩,
    ⟨Hcm, ⟨⟨%fs0, Hs0⟩, ⟨%fs1, Hs1⟩⟩, ⟨%fg, Hg⟩⟩, ⟨%W, HO⟩, Hx, Hr, Hi, He, Ho⟩, Hk⟩
  simp only [dev1_eq c, dev2_eq c]
  unfold O₀
  iapply (Rounds.wp_signal 𝒱₀ ER (ringRd m) (c : Thread nD τ) none (dst := (prv c : Thread nD τ)) (κ := K (prv c, 0))
      (d := true) (by rw [duties_bar]; exact Finset.mem_univ _) ((amount_bar m (prv c) true).trans (by decide)) () (O₁ c) rfl)
    $$ [HO HtP Hcm]
  · isplitr; · iapply (inv_at m K (prv c, 0)); iexact HR
    isplitl [HO]; · iexact HO
    isplitl [HtP]; · iexact HtP
    isplitl [Hcm]
    · rw [payload_bar_true]; unfold barPay; rw [nxt_prv]; iexact Hcm
    · iapply (reached_at m K (prv c, 0)); iexact HR
  iintro HO
  unfold O₁
  iapply (Rounds.wp_signal 𝒱₀ ER (ringRd m) (c : Thread nD τ) none (dst := (nxt c : Thread nD τ)) (κ := K (nxt c, 0))
      (d := false) (by rw [duties_bar]; exact Finset.mem_univ _) ((amount_bar m (nxt c) false).trans (by decide)) () (OR c 7) rfl)
    $$ [HO HtN]
  · isplitr; · iapply (inv_at m K (nxt c, 0)); iexact HR
    isplitl [HO]; · iexact HO
    isplitl [HtN]; · iexact HtN
    isplitr; · rw [payload_bar_false]; iempintro
    iapply (reached_at m K (nxt c, 0)); iexact HR
  iintro HO
  iapply (Rounds.wp_wait_rest_token 𝒱₀ ER (ringRd m) (c : Thread nD τ) none (κ := K (c, 0))
      (wpE_semWait_eq 𝒱₀ (c : Thread nD τ) none Set.univ) (Set.mem_univ _) () (O := OR c 7) (W := W) (R := 0) (m := 0) (T := ∅)
      (by rw [expect_bar]; decide)) $$ [HcB HO HaB]
  · isplitr; · iapply (inv_at m K (c, 0)); iexact HR
    isplitl [HcB]; · iexact HcB
    isplitl [HO]; · iexact HO
    isplitr; · iapply (mayWait_OR c (.reg barS) 7 1 (Nat.le_refl _) (by decide)); iexact Hlev
    iexact HaB
  iintro ⟨HO, HaB, -, Hpay⟩
  ihave Hp := (Entails.of_eq (rest_bar m c)) $$ Hpay
  unfold barPay
  rw [bigSep_fin7]
  icases Hp with ⟨-, Hn0, Hn1, Hn2, Hn3, Hn4, Hn5, Hn6⟩
  imod (Rounds.cell_close ER (ringRd m) (Set.mem_univ (K (c, 0))) (fun h => h) (R := 0 + 1) (duties_later m (barCell c))) $$ [HaB] with HzB
  · isplitr; · iapply (inv_at m K (c, 0)); iexact HR
    iexact HaB
  iapply (wp_load 𝒱₀ (c : Thread nD τ) none Set.univ (m := xM) (Finset.subset_univ _)) $$ Hx; iintro Hx
  iapply (wp_load 𝒱₀ (c : Thread nD τ) none Set.univ (m := rM) (Finset.subset_univ _)) $$ Hr; iintro Hr
  iapply (wp_load 𝒱₀ (c : Thread nD τ) none Set.univ (m := iM) (Finset.subset_univ _)) $$ Hi; iintro Hi
  iapply (wp_load 𝒱₀ (c : Thread nD τ) none Set.univ (m := iM) (Finset.subset_univ _)) $$ Hi; iintro Hi
  simp only [k0_part2_eq_skeleton]; unfold k0_part2_skel
  simp only [Prog.lift, Prog.bind_op, Prog.bind_ret, Prog.pure_eq_ret]
  iapply (wp_load 𝒱₀ (c : Thread nD τ) none Set.univ (m := gM) (Finset.subset_univ _)) $$ Hg; iintro Hg
  iapply (wp_store_g c fg (w := gAt m c)) $$ Hg; iintro Hg
  ihave HO := (Ow_intro c (OR c 7) _) $$ HO
  iapply (wp_load 𝒱₀ (c : Thread nD τ) none Set.univ (m := xM) (Finset.subset_univ _)) $$ Hx; iintro Hx
  iapply (wp_load 𝒱₀ (c : Thread nD τ) none Set.univ (m := gM) (Finset.subset_univ _)) $$ Hg; iintro Hg
  iapply (wp_load 𝒱₀ (c : Thread nD τ) none Set.univ (m := eM) (Finset.subset_univ _)) $$ He; iintro He
  simp only [k0_part3_eq_skeleton]; unfold k0_part3_skel
  simp only [Prog.lift, Prog.bind_op, Prog.bind_ret, Prog.pure_eq_ret]
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  simp only [k0_part4_eq_skeleton]; unfold k0_part4_skel
  simp only [Prog.lift, Prog.bind_op, Prog.bind_ret, Prog.pure_eq_ret]
  iapply (wp_load 𝒱₀ (c : Thread nD τ) none Set.univ (m := eM) (Finset.subset_univ _)) $$ He; iintro He
  iapply (wp_load_s c 0 fs0) $$ Hs0; iintro Hs0
  iapply (wp_store_s c 0 fs0) $$ Hs0; iintro ⟨%g0, %hg0, Hs0⟩
  have e0 := ring_zero m c hg0 rfl
  iapply (wp_send_step m K c 0 _ (Fin.ext (k0_dev3_eq c)) 6 rfl rfl rfl rfl rfl g0 e0) $$ [HO Hs0 Hn0 HtS0 HtR0]
  · isplitr; · iexact HR
    isplitl [Hs0]; · iexact Hs0
    isplitl [Hn0]; · iexact Hn0
    isplitl [HO]; · iexact HO
    isplitl [HtS0]; · iexact HtS0
    iexact HtR0
  iintro ⟨HcS0, HO⟩
  iapply (wp_load 𝒱₀ (c : Thread nD τ) none Set.univ (m := xM) (Finset.subset_univ _)) $$ Hx; iintro Hx
  iapply (wp_load 𝒱₀ (c : Thread nD τ) none Set.univ (m := gM) (Finset.subset_univ _)) $$ Hg; iintro Hg
  simp only [k0_part5_eq_skeleton]; unfold k0_part5_skel
  simp only [Prog.lift, Prog.bind_op, Prog.bind_ret, Prog.pure_eq_ret]
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  simp only [k0_part6_eq_skeleton]; unfold k0_part6_skel
  simp only [Prog.lift, Prog.bind_op, Prog.bind_ret, Prog.pure_eq_ret]
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_wait_recv m K c 0 6 (by decide) (by decide) rfl rfl) $$ [Hc0 HO HaR0]
  · isplitr; · iexact HR
    isplitr; · iexact Hlev
    isplitl [Hc0]; · iexact Hc0
    isplitl [HO]; · iexact HO
    iexact HaR0
  iintro ⟨HO, HzR0, ⟨%fr0, %hr0, Hm0⟩⟩
  iapply (wp_load_c c 0 fr0) $$ Hm0; iintro Hm0
  iapply (wp_load_s c 1 fs1) $$ Hs1; iintro Hs1
  simp only [k0_part7_eq_skeleton]; unfold k0_part7_skel
  simp only [Prog.lift, Prog.bind_op, Prog.bind_ret, Prog.pure_eq_ret]
  iapply (wp_store_s c 1 fs1) $$ Hs1; iintro ⟨%g1, %hg1, Hs1⟩
  have e1 := ring_step m c 0 hr0 hg1 rfl
  iapply (wp_send_step m K c 1 _ (Fin.ext (k0_dev4_eq c)) 5 rfl rfl rfl rfl rfl g1 e1) $$ [HO Hs1 Hn1 HtS1 HtR1]
  · isplitr; · iexact HR
    isplitl [Hs1]; · iexact Hs1
    isplitl [Hn1]; · iexact Hn1
    isplitl [HO]; · iexact HO
    isplitl [HtS1]; · iexact HtS1
    iexact HtR1
  iintro ⟨HcS1, HO⟩
  iapply (wp_load 𝒱₀ (c : Thread nD τ) none Set.univ (m := xM) (Finset.subset_univ _)) $$ Hx; iintro Hx
  iapply (wp_load 𝒱₀ (c : Thread nD τ) none Set.univ (m := gM) (Finset.subset_univ _)) $$ Hg; iintro Hg
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  simp only [k0_part8_eq_skeleton]; unfold k0_part8_skel
  simp only [Prog.lift, Prog.bind_op, Prog.bind_ret, Prog.pure_eq_ret]
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  simp only [k0_part9_eq_skeleton]; unfold k0_part9_skel
  simp only [Prog.lift, Prog.bind_op, Prog.bind_ret, Prog.pure_eq_ret]
  iapply (wp_load 𝒱₀ (c : Thread nD τ) none Set.univ (m := eM) (Finset.subset_univ _)) $$ He; iintro He
  iapply (wp_wait_recv m K c 1 5 (by decide) (by decide) rfl rfl) $$ [Hc1 HO HaR1]
  · isplitr; · iexact HR
    isplitr; · iexact Hlev
    isplitl [Hc1]; · iexact Hc1
    isplitl [HO]; · iexact HO
    iexact HaR1
  iintro ⟨HO, HzR1, ⟨%fr1, %hr1, Hm1⟩⟩
  iapply (wp_wait_send m K c 0 5 (by decide) (by decide) rfl rfl) $$ [HcS0 HO HaS0]
  · isplitr; · iexact HR
    isplitr; · iexact Hlev
    isplitl [HcS0]; · iexact HcS0
    isplitl [HO]; · iexact HO
    iexact HaS0
  iintro ⟨HO, HzS0, ⟨%fd0, Hs0⟩⟩
  ihave Hs0 := (Entails.of_eq (show sPts c (par 0) fd0 = sPts c 0 fd0 from rfl)) $$ Hs0
  iapply (wp_load_c c 1 fr1) $$ Hm1; iintro Hm1
  iapply (wp_load_s c 0 fd0) $$ Hs0; iintro Hs0
  iapply (wp_store_s c 0 fd0) $$ Hs0; iintro ⟨%g2, %hg2, Hs0⟩
  have e2 := ring_step m c 1 hr1 hg2 rfl
  simp only [k0_part10_eq_skeleton]; unfold k0_part10_skel
  simp only [Prog.lift, Prog.bind_op, Prog.bind_ret, Prog.pure_eq_ret]
  iapply (wp_send_step m K c 2 _ (Fin.ext (k0_dev5_eq c)) 4 rfl rfl rfl rfl rfl g2 e2) $$ [HO Hs0 Hn2 HtS2 HtR2]
  · isplitr; · iexact HR
    isplitl [Hs0]; · iexact Hs0
    isplitl [Hn2]; · iexact Hn2
    isplitl [HO]; · iexact HO
    isplitl [HtS2]; · iexact HtS2
    iexact HtR2
  iintro ⟨HcS2, HO⟩
  iapply (wp_load 𝒱₀ (c : Thread nD τ) none Set.univ (m := xM) (Finset.subset_univ _)) $$ Hx; iintro Hx
  iapply (wp_load 𝒱₀ (c : Thread nD τ) none Set.univ (m := gM) (Finset.subset_univ _)) $$ Hg; iintro Hg
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  simp only [k0_part11_eq_skeleton]; unfold k0_part11_skel
  simp only [Prog.lift, Prog.bind_op, Prog.bind_ret, Prog.pure_eq_ret]
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  simp only [k0_part12_eq_skeleton]; unfold k0_part12_skel
  simp only [Prog.lift, Prog.bind_op, Prog.bind_ret, Prog.pure_eq_ret]
  iapply (wp_load 𝒱₀ (c : Thread nD τ) none Set.univ (m := eM) (Finset.subset_univ _)) $$ He; iintro He
  iapply (wp_wait_recv m K c 2 4 (by decide) (by decide) rfl rfl) $$ [Hc2 HO HaR2]
  · isplitr; · iexact HR
    isplitr; · iexact Hlev
    isplitl [Hc2]; · iexact Hc2
    isplitl [HO]; · iexact HO
    iexact HaR2
  iintro ⟨HO, HzR2, ⟨%fr2, %hr2, Hm2⟩⟩
  iapply (wp_wait_send m K c 1 4 (by decide) (by decide) rfl rfl) $$ [HcS1 HO HaS1]
  · isplitr; · iexact HR
    isplitr; · iexact Hlev
    isplitl [HcS1]; · iexact HcS1
    isplitl [HO]; · iexact HO
    iexact HaS1
  iintro ⟨HO, HzS1, ⟨%fd1, Hs1⟩⟩
  ihave Hs1 := (Entails.of_eq (show sPts c (par 1) fd1 = sPts c 1 fd1 from rfl)) $$ Hs1
  iapply (wp_load_c c 2 fr2) $$ Hm2; iintro Hm2
  iapply (wp_load_s c 1 fd1) $$ Hs1; iintro Hs1
  iapply (wp_store_s c 1 fd1) $$ Hs1; iintro ⟨%g3, %hg3, Hs1⟩
  have e3 := ring_step m c 2 hr2 hg3 rfl
  simp only [k0_part13_eq_skeleton]; unfold k0_part13_skel
  simp only [Prog.lift, Prog.bind_op, Prog.bind_ret, Prog.pure_eq_ret]
  iapply (wp_send_step m K c 3 _ (Fin.ext (k0_dev6_eq c)) 3 rfl rfl rfl rfl rfl g3 e3) $$ [HO Hs1 Hn3 HtS3 HtR3]
  · isplitr; · iexact HR
    isplitl [Hs1]; · iexact Hs1
    isplitl [Hn3]; · iexact Hn3
    isplitl [HO]; · iexact HO
    isplitl [HtS3]; · iexact HtS3
    iexact HtR3
  iintro ⟨HcS3, HO⟩
  iapply (wp_load 𝒱₀ (c : Thread nD τ) none Set.univ (m := xM) (Finset.subset_univ _)) $$ Hx; iintro Hx
  iapply (wp_load 𝒱₀ (c : Thread nD τ) none Set.univ (m := gM) (Finset.subset_univ _)) $$ Hg; iintro Hg
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  simp only [k0_part14_eq_skeleton]; unfold k0_part14_skel
  simp only [Prog.lift, Prog.bind_op, Prog.bind_ret, Prog.pure_eq_ret]
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  simp only [k0_part15_eq_skeleton]; unfold k0_part15_skel
  simp only [Prog.lift, Prog.bind_op, Prog.bind_ret, Prog.pure_eq_ret]
  iapply (wp_wait_recv m K c 3 3 (by decide) (by decide) rfl rfl) $$ [Hc3 HO HaR3]
  · isplitr; · iexact HR
    isplitr; · iexact Hlev
    isplitl [Hc3]; · iexact Hc3
    isplitl [HO]; · iexact HO
    iexact HaR3
  iintro ⟨HO, HzR3, ⟨%fr3, %hr3, Hm3⟩⟩
  iapply (wp_wait_send m K c 2 3 (by decide) (by decide) rfl rfl) $$ [HcS2 HO HaS2]
  · isplitr; · iexact HR
    isplitr; · iexact Hlev
    isplitl [HcS2]; · iexact HcS2
    isplitl [HO]; · iexact HO
    iexact HaS2
  iintro ⟨HO, HzS2, ⟨%fd2, Hs0⟩⟩
  ihave Hs0 := (Entails.of_eq (show sPts c (par 2) fd2 = sPts c 0 fd2 from rfl)) $$ Hs0
  iapply (wp_load_c c 3 fr3) $$ Hm3; iintro Hm3
  iapply (wp_load_s c 0 fd2) $$ Hs0; iintro Hs0
  iapply (wp_store_s c 0 fd2) $$ Hs0; iintro ⟨%g4, %hg4, Hs0⟩
  have e4 := ring_step m c 3 hr3 hg4 rfl
  simp only [k0_part16_eq_skeleton]; unfold k0_part16_skel
  simp only [Prog.lift, Prog.bind_op, Prog.bind_ret, Prog.pure_eq_ret]
  iapply (wp_send_step m K c 4 _ (Fin.ext (k0_dev7_eq c)) 2 rfl rfl rfl rfl rfl g4 e4) $$ [HO Hs0 Hn4 HtS4 HtR4]
  · isplitr; · iexact HR
    isplitl [Hs0]; · iexact Hs0
    isplitl [Hn4]; · iexact Hn4
    isplitl [HO]; · iexact HO
    isplitl [HtS4]; · iexact HtS4
    iexact HtR4
  iintro ⟨HcS4, HO⟩
  iapply (wp_load 𝒱₀ (c : Thread nD τ) none Set.univ (m := xM) (Finset.subset_univ _)) $$ Hx; iintro Hx
  iapply (wp_load 𝒱₀ (c : Thread nD τ) none Set.univ (m := gM) (Finset.subset_univ _)) $$ Hg; iintro Hg
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  simp only [k0_part17_eq_skeleton]; unfold k0_part17_skel
  simp only [Prog.lift, Prog.bind_op, Prog.bind_ret, Prog.pure_eq_ret]
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  simp only [k0_part18_eq_skeleton]; unfold k0_part18_skel
  simp only [Prog.lift, Prog.bind_op, Prog.bind_ret, Prog.pure_eq_ret]
  iapply (wp_wait_recv m K c 4 2 (by decide) (by decide) rfl rfl) $$ [Hc4 HO HaR4]
  · isplitr; · iexact HR
    isplitr; · iexact Hlev
    isplitl [Hc4]; · iexact Hc4
    isplitl [HO]; · iexact HO
    iexact HaR4
  iintro ⟨HO, HzR4, ⟨%fr4, %hr4, Hm4⟩⟩
  iapply (wp_wait_send m K c 3 2 (by decide) (by decide) rfl rfl) $$ [HcS3 HO HaS3]
  · isplitr; · iexact HR
    isplitr; · iexact Hlev
    isplitl [HcS3]; · iexact HcS3
    isplitl [HO]; · iexact HO
    iexact HaS3
  iintro ⟨HO, HzS3, ⟨%fd3, Hs1⟩⟩
  ihave Hs1 := (Entails.of_eq (show sPts c (par 3) fd3 = sPts c 1 fd3 from rfl)) $$ Hs1
  iapply (wp_load_c c 4 fr4) $$ Hm4; iintro Hm4
  iapply (wp_load_s c 1 fd3) $$ Hs1; iintro Hs1
  iapply (wp_store_s c 1 fd3) $$ Hs1; iintro ⟨%g5, %hg5, Hs1⟩
  have e5 := ring_step m c 4 hr4 hg5 rfl
  simp only [k0_part19_eq_skeleton]; unfold k0_part19_skel
  simp only [Prog.lift, Prog.bind_op, Prog.bind_ret, Prog.pure_eq_ret]
  iapply (wp_send_step m K c 5 _ (Fin.ext (k0_dev8_eq c)) 1 rfl rfl rfl rfl rfl g5 e5) $$ [HO Hs1 Hn5 HtS5 HtR5]
  · isplitr; · iexact HR
    isplitl [Hs1]; · iexact Hs1
    isplitl [Hn5]; · iexact Hn5
    isplitl [HO]; · iexact HO
    isplitl [HtS5]; · iexact HtS5
    iexact HtR5
  iintro ⟨HcS5, HO⟩
  iapply (wp_load 𝒱₀ (c : Thread nD τ) none Set.univ (m := xM) (Finset.subset_univ _)) $$ Hx; iintro Hx
  iapply (wp_load 𝒱₀ (c : Thread nD τ) none Set.univ (m := gM) (Finset.subset_univ _)) $$ Hg; iintro Hg
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  simp only [k0_part20_eq_skeleton]; unfold k0_part20_skel
  simp only [Prog.lift, Prog.bind_op, Prog.bind_ret, Prog.pure_eq_ret]
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  simp only [k0_part21_eq_skeleton]; unfold k0_part21_skel
  simp only [Prog.lift, Prog.bind_op, Prog.bind_ret, Prog.pure_eq_ret]
  iapply (wp_wait_recv m K c 5 1 (by decide) (by decide) rfl rfl) $$ [Hc5 HO HaR5]
  · isplitr; · iexact HR
    isplitr; · iexact Hlev
    isplitl [Hc5]; · iexact Hc5
    isplitl [HO]; · iexact HO
    iexact HaR5
  iintro ⟨HO, HzR5, ⟨%fr5, %hr5, Hm5⟩⟩
  iapply (wp_wait_send m K c 4 1 (by decide) (by decide) rfl rfl) $$ [HcS4 HO HaS4]
  · isplitr; · iexact HR
    isplitr; · iexact Hlev
    isplitl [HcS4]; · iexact HcS4
    isplitl [HO]; · iexact HO
    iexact HaS4
  iintro ⟨HO, HzS4, ⟨%fd4, Hs0⟩⟩
  ihave Hs0 := (Entails.of_eq (show sPts c (par 4) fd4 = sPts c 0 fd4 from rfl)) $$ Hs0
  iapply (wp_load_c c 5 fr5) $$ Hm5; iintro Hm5
  iapply (wp_load_s c 0 fd4) $$ Hs0; iintro Hs0
  iapply (wp_store_s c 0 fd4) $$ Hs0; iintro ⟨%g6, %hg6, Hs0⟩
  have e6 := ring_step m c 5 hr5 hg6 rfl
  simp only [k0_part22_eq_skeleton]; unfold k0_part22_skel
  simp only [Prog.lift, Prog.bind_op, Prog.bind_ret, Prog.pure_eq_ret]
  iapply (wp_send_step m K c 6 _ (Fin.ext (k0_dev9_eq c)) 0 rfl rfl rfl rfl rfl g6 e6) $$ [HO Hs0 Hn6 HtS6 HtR6]
  · isplitr; · iexact HR
    isplitl [Hs0]; · iexact Hs0
    isplitl [Hn6]; · iexact Hn6
    isplitl [HO]; · iexact HO
    isplitl [HtS6]; · iexact HtS6
    iexact HtR6
  iintro ⟨HcS6, HO⟩
  iapply (wp_load 𝒱₀ (c : Thread nD τ) none Set.univ (m := xM) (Finset.subset_univ _)) $$ Hx; iintro Hx
  iapply (wp_load 𝒱₀ (c : Thread nD τ) none Set.univ (m := gM) (Finset.subset_univ _)) $$ Hg; iintro Hg
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  simp only [k0_part23_eq_skeleton]; unfold k0_part23_skel
  simp only [Prog.lift, Prog.bind_op, Prog.bind_ret, Prog.pure_eq_ret]
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_wait_recv m K c 6 0 (by decide) (by decide) rfl rfl) $$ [Hc6 HO HaR6]
  · isplitr; · iexact HR
    isplitr; · iexact Hlev
    isplitl [Hc6]; · iexact Hc6
    isplitl [HO]; · iexact HO
    iexact HaR6
  iintro ⟨HO, HzR6, ⟨%fr6, %hr6, Hm6⟩⟩
  iapply (wp_load_c c 6 fr6) $$ Hm6; iintro Hm6
  iapply (wp_load 𝒱₀ (c : Thread nD τ) none Set.univ (m := oM) (Finset.subset_univ _)) $$ Ho; iintro Ho
  iapply (wp_store_o c fo (w := addf (shapeCast S256x1024 (cM.view.readAt (Elt F) (cRect 6).toLoadRect fr6) shapeCasts_S1x256x1024_S256x1024) (ownPart m c))) $$ Ho
  iintro Ho
  rw [out_eq m c hr6]
  iapply (wp_wait_send m K c 5 0 (by decide) (by decide) rfl rfl) $$ [HcS5 HO HaS5]
  · isplitr; · iexact HR
    isplitr; · iexact Hlev
    isplitl [HcS5]; · iexact HcS5
    isplitl [HO]; · iexact HO
    iexact HaS5
  iintro ⟨HO, HzS5, ⟨%fd5, Hs1⟩⟩
  ihave Hs1 := (Entails.of_eq (show sPts c (par 5) fd5 = sPts c 1 fd5 from rfl)) $$ Hs1
  iapply (wp_wait_send m K c 6 0 (by decide) (by decide) rfl rfl) $$ [HcS6 HO HaS6]
  · isplitr; · iexact HR
    isplitr; · iexact Hlev
    isplitl [HcS6]; · iexact HcS6
    isplitl [HO]; · iexact HO
    iexact HaS6
  iintro ⟨HO, HzS6, ⟨%fd6, Hs0⟩⟩
  ihave Hs0 := (Entails.of_eq (show sPts c (par 6) fd6 = sPts c 0 fd6 from rfl)) $$ Hs0
  rw [wp_ret]; imodintro
  iapply Hk
  iapply (post_intro m c)
  isplitl [Hm0 Hm1 Hm2 Hm3 Hm4 Hm5 Hm6]
  · unfold cAny
    isplitl [Hm0]; · iexists _; iexact Hm0
    isplitl [Hm1]; · iexists _; iexact Hm1
    isplitl [Hm2]; · iexists _; iexact Hm2
    isplitl [Hm3]; · iexists _; iexact Hm3
    isplitl [Hm4]; · iexists _; iexact Hm4
    isplitl [Hm5]; · iexists _; iexact Hm5
    iexists _; iexact Hm6
  isplitl [Hs0 Hs1]
  · isplitl [Hs0]
    · unfold sAny; iexists _; iexact Hs0
    · unfold sAny; iexists _; iexact Hs1
  isplitl [Hg]; · iexact Hg
  isplitl [HzB HzS0 HzS1 HzS2 HzS3 HzS4 HzS5 HzS6 HzR0 HzR1 HzR2 HzR3 HzR4 HzR5 HzR6]
  · isplitl [HzB]; · iexact HzB
    isplitl [HzS0]; · iexact HzS0
    isplitl [HzS1]; · iexact HzS1
    isplitl [HzS2]; · iexact HzS2
    isplitl [HzS3]; · iexact HzS3
    isplitl [HzS4]; · iexact HzS4
    isplitl [HzS5]; · iexact HzS5
    isplitl [HzS6]; · iexact HzS6
    isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    iexact HzR6
  isplitl [HO]; · iexact HO
  isplitl [Hx]; · iexact Hx
  isplitl [Hr]; · iexact Hr
  isplitl [Hi]; · iexact Hi
  isplitl [He]; · iexact He
  iexact Ho

end Cert.MoeRing

end
-- ==== Proof.Launch.lean ====
/-
# The launch: what each device starts from and what it must give back
-/
module

public import proofs.«01_k».proof.Proof.Steps
public import Idealize.ShloMosaic.Lib.Ring

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The own semaphores are distinct, and none is a staging semaphore. -/
theorem ownSemFacts : Pipeline.OwnSemFacts cfg0.spec osem := by decide

/-- Every window is held with the full share. -/
theorem share_eq (c : Dev nD) (w : Fin cfg0.W) : (dats m ρ 0 c).share w = fullShare := by unfold Dat.share; split <;> rfl

/-- The fifteen semaphores are distinct on a device, -/
theorem csem_injective : Function.Injective csem := by decide

/-- and across devices. -/
theorem kcell_injective : Function.Injective (kcell : Dev nD × Fin 15 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The ring's cells: fifteen on every device. -/
def ringCells : Finset (GSem nD τ sig) := Finset.univ.map ⟨kcell, kcell_injective⟩

/-- A device's own cells' duty tokens: one `false` per cell, and the barrier's `true`. -/
abbrev tokOf (cj : Dev nD × Fin 16) : GSem nD τ sig × ℕ × Bool :=
  (kcell (cj.1, ⟨cj.2.val - 1, by have := cj.2.isLt; omega⟩), 0, decide (cj.2.val = 0))

/-- The sixteen duties of every device are distinct. -/
theorem tokOf_injective : Function.Injective (tokOf : Dev nD × Fin 16 → GSem nD τ sig × ℕ × Bool) := by
  rintro ⟨c, j⟩ ⟨c', j'⟩ h
  have h1 := kcell_injective (congrArg Prod.fst h)
  have h2 : c = c' := congrArg Prod.fst h1
  have h3 : j.val - 1 = j'.val - 1 := congrArg (fun x : Dev nD × Fin 15 => x.2.val) h1
  have h4 : (j.val = 0) ↔ (j'.val = 0) := decide_eq_decide.mp (congrArg (fun x : GSem nD τ sig × ℕ × Bool => x.2.2) h)
  have h5 : j = j' := Fin.ext (by omega)
  rw [h2, h5]

/-- All duties, as a set. -/
def ringToks : Finset (GSem nD τ sig × ℕ × Bool) := Finset.univ.map ⟨tokOf, tokOf_injective⟩

/-- The ghost state at launch. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop(dutyTok ER (barCell c) 0 true ∗ dutyTok ER (barCell c) 0 false
    ∗ (bigSep Finset.univ fun s : Fin 7 => dutyTok ER (sendCell c s) 0 false)
    ∗ (bigSep Finset.univ fun s : Fin 7 => dutyTok ER (recvCell c s) 0 false))

/-- What the launch deals device `c`. -/
def G (c : Dev nD) : sProp 𝕄 :=
  iprop((bigSep Finset.univ fun k : Fin 15 => roundState ER (ringRd m) (kcell (c, k)) 0)
    ∗ (bigSep Finset.univ fun k : Fin 15 => iprop(atPos ER (kcell (c, k)) 0 ∅ 0 ∗ reached ER (kcell (c, k)) 0)) ∗ toks c)

/-- What the exchange between the devices makes of it. -/
def G' (c : Dev nD) : sProp 𝕄 := iprop(∃ K, records m K ∗ linear c)

/-- A product over sixteen, written out. -/
theorem bigSep_fin16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-- Fifteen pieces as the barrier's, the seven send cells' and the seven receive cells'. -/
theorem bigSep_cells (Φ : Fin 15 → sProp 𝕄) : bigSep Finset.univ Φ
    ⊢ iprop(Φ 0 ∗ (bigSep Finset.univ fun s : Fin 7 => Φ (kS s).succ) ∗ bigSep Finset.univ fun s : Fin 7 => Φ (kR s).succ) := by
  have e1 : (bigSep Finset.univ fun s : Fin 7 => Φ (kS s).succ) = iprop(Φ 1 ∗ Φ 2 ∗ Φ 3 ∗ Φ 4 ∗ Φ 5 ∗ Φ 6 ∗ Φ 7) := (bigSep_fin7 _).trans rfl
  have e2 : (bigSep Finset.univ fun s : Fin 7 => Φ (kR s).succ) = iprop(Φ 8 ∗ Φ 9 ∗ Φ 10 ∗ Φ 11 ∗ Φ 12 ∗ Φ 13 ∗ Φ 14) := (bigSep_fin7 _).trans rfl
  rw [bigSep_fin15, e1, e2]
  iintro ⟨H, A0, A1, A2, A3, A4, A5, A6, B⟩
  isplitl [H]; · iexact H
  isplitr [B]
  · isplitl [A0]; · iexact A0
    isplitl [A1]; · iexact A1
    isplitl [A2]; · iexact A2
    isplitl [A3]; · iexact A3
    isplitl [A4]; · iexact A4
    isplitl [A5]; · iexact A5
    iexact A6
  iexact B

/-- A device's sixteen duties, grouped by semaphore. -/
theorem toks_intro (c : Dev nD) : (bigSep Finset.univ fun j : Fin 16 => (dutyTok ER (tokOf (c, j)).1 (tokOf (c, j)).2.1 (tokOf (c, j)).2.2 : sProp 𝕄)) ⊢ toks c := by
  have h : (bigSep Finset.univ fun j : Fin 16 => (dutyTok ER (tokOf (c, j)).1 (tokOf (c, j)).2.1 (tokOf (c, j)).2.2 : sProp 𝕄))
      = iprop(dutyTok ER (barCell c) 0 true ∗ bigSep Finset.univ fun k : Fin 15 => dutyTok ER (kcell (c, k)) 0 false) := by
    rw [bigSep_fin16, bigSep_fin15]; rfl
  rw [h]; unfold toks
  exact sep_mono_right (bigSep_cells fun k => dutyTok ER (kcell (c, k)) 0 false)

/-- The ring's ghost state splits into every device's part. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 15 => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    exact bigSep_mono fun c _ => toks_intro c
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-- The fourteen DMA semaphores are the kernel's own; the barrier is the launch's one unscoped semaphore. -/
theorem sems0_eq (c : Dev nD) :
    (iprop(unscopedSems0 c ∗ Pipeline.ownSems0 (Ix := Unit) (Name := ℕ) (U := UU) (Lvl := ℕ) (Val := Elt F) (τ := τ) osem c) : sProp 𝕄)
      = bigSep Finset.univ fun k : Fin 15 => semVal (kcell (c, k)) 0 := by
  have h : (unscopedSems0 c : sProp 𝕄) = semVal (barCell c) 0 := by
    unfold unscopedSems0; rw [bigSep_eq_bigSepL_of_eq [SemLoc.reg barS] (by decide) (by decide)]; rfl
  rw [h, Pipeline.ownSems0_eq_of_list c osem [0, 1, 2, 3, 4, 5, 6, 7, 8, 9, 10, 11, 12, 13] (by decide) (by decide), bigSep_fin15]; rfl

/-- Device `c`'s semaphores at zero become invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : Fin 15 => semVal (kcell (c, k)) 0) ∗ bigSep Finset.univ fun k : Fin 15 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt around the ring: each device gets the ones of the duties it pays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv ring.symm (fun c : Dev nD => (dutyTok ER (barCell c) 0 true : sProp 𝕄)),
    bigSep_univ_equiv ring (fun c : Dev nD => (dutyTok ER (barCell c) 0 false : sProp 𝕄)),
    bigSep_univ_equiv ring (fun c : Dev nD => (bigSep Finset.univ fun s : Fin 7 => dutyTok ER (recvCell c s) 0 false : sProp 𝕄))]
  iintro ⟨H1, H2, H3, H4⟩
  isplitl [H2]; · iexact H2
  isplitl [H1]; · iexact H1
  isplitl [H3]; · iexact H3
  iexact H4

/-- The invariants of all devices become known to each. -/
theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 15 => iprop(∃ κ : ℕ, cellInv ER (ringRd m) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok⟩
  ihave HK := (BI.bigSep_exists_pi Finset.univ (fun (ck : Dev nD × Fin 15) (κ : ℕ) => (cellInv ER (ringRd m) κ (kcell ck) : sProp 𝕄))) $$ HI
  icases HK with ⟨%K, #HI⟩
  ihave Htk := (toks_around (F := F)) $$ Htok
  have hK (c : Dev nD) : iprop(records m K ∗ linear c) ⊢ G' m c := by
    unfold G'; iintro H; iexists K; iexact H
  iapply (bigSep_with_persistent (R := records m K) fun c _ => hK c)
  isplitr
  · unfold records; isplitl; · iexact HI
    iexact HR
  · iapply (Entails.of_eq (bigSep_sep' Finset.univ (fun c : Dev nD => bigSep Finset.univ fun k : Fin 15 => (atPos ER (kcell (c, k)) 0 ∅ 0 : sProp 𝕄)) payToks).symm)
    isplitl [Hat]; · iexact Hat
    iexact Htk

/-- Every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

/-- Equal cells are on the same device. -/
theorem dev_of_cell {a b : Dev nD} {x y : SemLoc sig} (h : (((a : Thread nD τ), x) : GSem nD τ sig) = ((b : Thread nD τ), y)) : a = b :=
  congrArg (fun g : GSem nD τ sig => g.1.1) h
/-- A receive semaphore is no barrier. -/
theorem recv_ne_bar {a b : Dev nD} {s : Fin 7} : recvCell a s ≠ barCell b := fun h => by cases congrArg Prod.snd h

/-- With `k` steps left, device `d` owes nothing to a barrier. -/
theorem OR_bar (d c : Dev nD) (k : ℕ) : OR d k (barCell c) () = 0 := by
  induction k with
  | zero => rfl
  | succ k ih => rw [OR, Pi.add_apply, Finsupp.add_apply, ih, tallyAt_ne_cell (fun h => recv_ne_bar h.symm)]; rfl

/-- With `k` steps left, device `d` owes its right neighbour the last `k` receive credits. -/
theorem OR_recv (d c : Dev nD) (s : Fin 7) (k : ℕ) (hk : k ≤ 7) :
    OR d k (recvCell c s) () = if d = prv c ∧ 7 - k ≤ s.val then N else 0 := by
  induction k with
  | zero => rw [if_neg (by omega)]; rfl
  | succ k ih =>
    rw [OR, Pi.add_apply, Finsupp.add_apply, ih (by omega), tallyAt_apply]
    have he : (recvCell c s = recvCell (nxt d) ⟨6 - k, by omega⟩ ∧ () = ()) ↔ (d = prv c ∧ s.val = 6 - k) := by
      constructor
      · rintro ⟨h, -⟩
        have h1 : c = nxt d := dev_of_cell h
        have h2 : 5 + (s.val + 7) = 5 + (6 - k + 7) := by
          have := congrArg Prod.snd h
          injection this with h3; exact congrArg Fin.val h3
        exact ⟨by rw [h1, prv_nxt], by omega⟩
      · rintro ⟨h1, h2⟩
        have h3 : s = ⟨6 - k, by omega⟩ := Fin.ext h2
        refine ⟨?_, rfl⟩
        rw [h1, nxt_prv, h3]
    by_cases hd : d = prv c
    · by_cases h1 : s.val = 6 - k
      · rw [if_neg (by omega), if_pos (he.mpr ⟨hd, h1⟩), if_pos ⟨hd, by omega⟩, Nat.zero_add]
      · rw [if_neg (fun h => h1 (he.mp h).2), Nat.add_zero]
        exact if_congr ⟨fun ⟨a, b⟩ => ⟨a, by omega⟩, fun ⟨a, b⟩ => ⟨a, by omega⟩⟩ rfl rfl
    · rw [if_neg (fun h => hd h.1), if_neg (fun h => hd (he.mp h).1), if_neg (fun h => hd h.1)]

/-- At launch device `d` owes a barrier one unit for each neighbour it is. -/
theorem owed_bar (d c : Dev nD) : O₀ d (barCell c) () = (if d = prv c then 1 else 0) + (if d = nxt c then 1 else 0) := by
  unfold O₀ O₁
  rw [Pi.add_apply, Finsupp.add_apply, Pi.add_apply, Finsupp.add_apply, OR_bar, tallyAt_apply, tallyAt_apply, Nat.zero_add]
  congr 1
  · refine if_congr ⟨fun h => ?_, fun h => ?_⟩ rfl rfl
    · rw [dev_of_cell h.1, prv_nxt]
    · rw [h, nxt_prv]; exact ⟨rfl, rfl⟩
  · refine if_congr ⟨fun h => ?_, fun h => ?_⟩ rfl rfl
    · rw [dev_of_cell h.1, nxt_prv]
    · rw [h, prv_nxt]; exact ⟨rfl, rfl⟩

/-- At launch device `d` owes each receive cell of its right neighbour one copy. -/
theorem owed_recv (d c : Dev nD) (s : Fin 7) : O₀ d (recvCell c s) () = if d = prv c then N else 0 := by
  unfold O₀ O₁
  rw [Pi.add_apply, Finsupp.add_apply, Pi.add_apply, Finsupp.add_apply, OR_recv d c s 7 (Nat.le_refl _),
    tallyAt_ne_cell recv_ne_bar, tallyAt_ne_cell recv_ne_bar, Finsupp.zero_apply, Nat.add_zero, Nat.add_zero]
  exact if_congr ⟨fun h => h.1, fun h => ⟨h, by omega⟩⟩ rfl rfl

/-- A barrier's launch credit is two units. -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

/-- A receive cell's launch credit is one copy. -/
theorem launch_recv (c : Dev nD) (s : Fin 7) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s, Finset.sum_ite_eq' Finset.univ (prv c) fun _ => N,
    if_pos (Finset.mem_univ _)]

/-- The seven receive semaphores are distinct. -/
theorem recvSem_injective : Function.Injective (fun s : Fin 7 => (SemLoc.dma (oSem (kR s)) : SemLoc sig)) := by decide

/-- The launch credit of device `c`, for its barrier and its receive cells. -/
theorem creds (c : Dev nD) :
    (Pipeline.launchCred O₀ c : sProp 𝕄) ⊢ iprop(cred (tallyAt (barCell c) () 2) ∗ bigSep Finset.univ fun s : Fin 7 => cred (tallyAt (recvCell c s) () N)) := by
  unfold Pipeline.launchCred
  rw [bigSep_univ_at _ (SemLoc.reg barS), launch_bar]
  refine sep_mono_right ?_
  have hsub : (Finset.univ.image fun s : Fin 7 => (SemLoc.dma (oSem (kR s)) : SemLoc sig)) ⊆ Finset.univ.erase (SemLoc.reg barS) := by
    intro x hx
    obtain ⟨s, -, rfl⟩ := Finset.mem_image.mp hx
    exact Finset.mem_erase.mpr ⟨(fun h => by cases h), Finset.mem_univ _⟩
  refine (bigSep_subset hsub).trans ?_
  rw [BI.bigSep_image_of_injOn recvSem_injective.injOn]
  exact bigSep_mono fun s _ => Entails.of_eq (congrArg cred (launch_recv c s))

/-! ### The theorem's side conditions -/

/-- What the launch gives is what the body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

/-- The cells of a landing slot are its rectangle. -/
theorem cSet (s : Fin 7) : (cSlot s).view.set = (cRect s).set := (set_c s).trans (View.set_slice_whole cc0_scratch0 (cRect s))
/-- The cells of a staging slot are its rectangle. -/
theorem sSet (b : Fin 2) : (sSlot b).view.set = (sRect b).set := (set_s b).trans (View.set_slice_whole cc0_scratch1 (sRect b))

/-- Landing slots are disjoint -/
theorem c_disj (s s' : Fin 7) (h : s ≠ s') : Disjoint (cRect s).set (cRect s').set :=
  Ring.lead_disjoint (s := S7x256x1024) 0 1 (fun s : Fin 7 => ![s.val, 0, 0]) S1x256x1024.size inb_c (fun s => (Nat.one_mul _).symm) rfl s s' h
/-- and cover their buffer. -/
theorem c_cover : Finset.univ.biUnion (fun s => (cRect s).set) = Finset.univ :=
  Ring.lead_cover (s := S7x256x1024) 0 1 (fun s : Fin 7 => ![s.val, 0, 0]) S1x256x1024.size inb_c (fun s => (Nat.one_mul _).symm) (by decide) rfl (by decide) rfl
/-- Staging slots are disjoint -/
theorem s_disj (s s' : Fin 2) (h : s ≠ s') : Disjoint (sRect s).set (sRect s').set :=
  Ring.lead_disjoint (s := S2x256x1024) 0 1 (fun s : Fin 2 => ![s.val, 0, 0]) S1x256x1024.size inb_s (fun s => (Nat.one_mul _).symm) rfl s s' h
/-- and cover their buffer. -/
theorem s_cover : Finset.univ.biUnion (fun s => (sRect s).set) = Finset.univ :=
  Ring.lead_cover (s := S2x256x1024) 0 1 (fun s : Fin 2 => ![s.val, 0, 0]) S1x256x1024.size inb_s (fun s => (Nat.one_mul _).symm) (by decide) rfl (by decide) rfl

/-- A landing slot of any contents, by its rectangle. -/
theorem cAny_eq (c : Dev nD) (s : Fin 7) : (cAny c s : sProp 𝕄)
    = iprop(∃ f : Buf (Elt F) ((c : Thread nD τ).loc cc0_scratch0), (((c : Thread nD τ).loc cc0_scratch0) ↦[(cRect s).set]{fullShare} f)) := by
  unfold cAny cPts; rw [cSet]
/-- A staging slot of any contents, by its rectangle. -/
theorem sAny_eq (c : Dev nD) (b : Fin 2) : (sAny c b : sProp 𝕄)
    = iprop(∃ f : Buf (Elt F) ((c : Thread nD τ).loc cc0_scratch1), (((c : Thread nD τ).loc cc0_scratch1) ↦[(sRect b).set]{fullShare} f)) := by
  unfold sAny sPts; rw [sSet]

/-- The landing buffer, cut into its slots; -/
theorem c_cut (c : Dev nD) : (iprop(∃ f : Buf (Elt F) ((c : Thread nD τ).loc cc0_scratch0), ((c : Thread nD τ).loc cc0_scratch0) ↦{fullShare} f) : sProp 𝕄)
    ⊢ bigSep Finset.univ fun s : Fin 7 => cAny c s := by
  iintro ⟨%f, H⟩
  have h1 := Ring.pointsTo_blocks (ℓ := (c : Thread nD τ).loc cc0_scratch0) (Ix := Unit) (Name := ℕ) (U := UU) (Lvl := ℕ) (fun s => (cRect s).set) c_disj c_cover (q := fullShare) f
  have h2 (s : Fin 7) : ((((c : Thread nD τ).loc cc0_scratch0) ↦[(cRect s).set]{fullShare} f) : sProp 𝕄) ⊢ cAny c s := by
    rw [cAny_eq]; iintro H; iexists f; iexact H
  have h3 := bigSep_mono (s := Finset.univ) fun s _ => h2 s
  have h4 := (Entails.of_eq h1).trans h3
  istop
  exact h4
/-- and the slots put together again. -/
theorem c_join (c : Dev nD) (f₀ : Buf (Elt F) ((c : Thread nD τ).loc cc0_scratch0)) : (bigSep Finset.univ fun s : Fin 7 => cAny c s)
    ⊢ (iprop(∃ f : Buf (Elt F) ((c : Thread nD τ).loc cc0_scratch0), ((c : Thread nD τ).loc cc0_scratch0) ↦{fullShare} f) : sProp 𝕄) := by
  have h1 := Ring.pointsTo_blocks_join_exists (ℓ := (c : Thread nD τ).loc cc0_scratch0) (Ix := Unit) (Name := ℕ) (U := UU) (Lvl := ℕ) (fun s => (cRect s).set) c_disj c_cover (q := fullShare) f₀
  have h2 := bigSep_mono (s := Finset.univ) fun (s : Fin 7) _ => Entails.of_eq (cAny_eq (F := F) c s)
  exact h2.trans h1
/-- The staging buffer, cut into its two slots; -/
theorem s_cut (c : Dev nD) : (iprop(∃ f : Buf (Elt F) ((c : Thread nD τ).loc cc0_scratch1), ((c : Thread nD τ).loc cc0_scratch1) ↦{fullShare} f) : sProp 𝕄)
    ⊢ bigSep Finset.univ fun b : Fin 2 => sAny c b := by
  iintro ⟨%f, H⟩
  have h1 := Ring.pointsTo_blocks (ℓ := (c : Thread nD τ).loc cc0_scratch1) (Ix := Unit) (Name := ℕ) (U := UU) (Lvl := ℕ) (fun s => (sRect s).set) s_disj s_cover (q := fullShare) f
  have h2 (b : Fin 2) : ((((c : Thread nD τ).loc cc0_scratch1) ↦[(sRect b).set]{fullShare} f) : sProp 𝕄) ⊢ sAny c b := by
    rw [sAny_eq]; iintro H; iexists f; iexact H
  have h3 := bigSep_mono (s := Finset.univ) fun b _ => h2 b
  have h4 := (Entails.of_eq h1).trans h3
  istop
  exact h4
/-- and the two put together again. -/
theorem s_join (c : Dev nD) (f₀ : Buf (Elt F) ((c : Thread nD τ).loc cc0_scratch1)) : (bigSep Finset.univ fun b : Fin 2 => sAny c b)
    ⊢ (iprop(∃ f : Buf (Elt F) ((c : Thread nD τ).loc cc0_scratch1), ((c : Thread nD τ).loc cc0_scratch1) ↦{fullShare} f) : sProp 𝕄) := by
  have h1 := Ring.pointsTo_blocks_join_exists (ℓ := (c : Thread nD τ).loc cc0_scratch1) (Ix := Unit) (Name := ℕ) (U := UU) (Lvl := ℕ) (fun s => (sRect s).set) s_disj s_cover (q := fullShare) f₀
  have h2 := bigSep_mono (s := Finset.univ) fun (b : Fin 2) _ => Entails.of_eq (sAny_eq (F := F) c b)
  exact h2.trans h1

/-- What the body starts from, with the scratch buffers, is the pipeline's state before the step. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch gAny
  iintro ⟨Hs, -, Hc, Hst, Hg⟩
  isplitl [Hs]; · iexact Hs
  isplitl [Hc]; · iapply (c_cut c); iexact Hc
  isplitl [Hst]; · iapply (s_cut c); iexact Hst
  iexact Hg

/-- The pipeline's state after the step gives the semaphores and the scratch buffers back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch gAny
  rw [← sems0_eq]
  iintro ⟨⟨Hc, Hst, Hg⟩, Hu, Ho⟩
  isplitl [Hu]; · iexact Hu
  isplitl [Ho]; · iexact Ho
  isplitl [Hc]; · iapply (c_join c (m _)); iexact Hc
  isplitl [Hst]; · iapply (s_join c (m _)); iexact Hst
  iexact Hg

/-- The pipeline may wait on its staging semaphores. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

end Cert.MoeRing

end
-- ==== Proof.Run.lean ====
/-
# The run of the kernel on eight devices
-/
module

public import proofs.«01_k».proof.Proof.Body
public import proofs.«01_k».proof.Proof.Launch
public import proofs.«01_k».proof.Proof.Gen.KernelIdeal.Points
public import Idealize.ShloMosaic.Lib.Pipeline.CollectiveSegs

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A whole staging buffer at contents equal to `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 32768 in
/-- What the library hands the body. -/
def pre (c : Dev nD) : sProp 𝕄 :=
  iprop(Φ₀ m c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

/-- What the library wants back. -/
def post (c : Dev nD) : sProp 𝕄 :=
  iprop(Φ₁ c ∗ (dats m ρ 0 c).owesAt () t₀.succ
    ∗ stg c cc0_stg0_0 (xIn m c) ∗ stg c cc0_stg1_0 (rIn m c) ∗ stg c cc0_stg2_0 (iIn m c) ∗ stg c cc0_stg3_0 (eIn m c)
    ∗ stg c cc0_stg4_0 (outAt m c))

omit [FloatOps F] in
/-- A buffer of contents equal to `X` is one at `X`. -/
theorem whl_of (c : Dev nD) (b : Ref sig .tc) {f X : Buf (Elt F) (((c : Dev nD) : Thread nD τ).loc b)} (h : f = X) :
    (((c : Thread nD τ).loc b) ↦{fullShare} f : sProp 𝕄) ⊢ whl c b X := by subst h; exact Entails.of_eq rfl
omit [FloatOps F] in
/-- A buffer at `X` is a staged buffer at `X`. -/
theorem stg_of (c : Dev nD) (b : Ref sig .tc) (X : Buf (Elt F) (((c : Dev nD) : Thread nD τ).loc b)) :
    (whl c b X : sProp 𝕄) ⊢ stg c b X := by
  iintro H; iexists X; isplitr
  · ipureintro; rfl
  · iexact H

/-- Before the body the first staging buffer holds the rows, -/
theorem before_0 (c : Dev nD) (d) : (dats m ρ 0 c).before (0 : Fin 5) t₀ d = xIn m c := by unfold Dat.before; rw [if_pos (fetch0_0 t₀)]; rfl
/-- the second the router weights, -/
theorem before_1 (c : Dev nD) (d) : (dats m ρ 0 c).before (1 : Fin 5) t₀ d = rIn m c := by unfold Dat.before; rw [if_pos (fetch0_1 t₀)]; rfl
/-- the third the routing table, -/
theorem before_2 (c : Dev nD) (d) : (dats m ρ 0 c).before (2 : Fin 5) t₀ d = iIn m c := by unfold Dat.before; rw [if_pos (fetch0_2 t₀)]; rfl
/-- the fourth the expert matrices. -/
theorem before_3 (c : Dev nD) (d) : (dats m ρ 0 c).before (3 : Fin 5) t₀ d = eIn m c := by unfold Dat.before; rw [if_pos (fetch0_3 t₀)]; rfl

set_option maxRecDepth 32768 in
/-- What the library gives is what the body asks for. -/
theorem pre_bodyPre (c : Dev nD) : pre m ρ c ⊢ iprop(∃ K fo, bodyPre m K c fo) := by
  unfold pre Φ₀ start bodyPre Ow Dat.owesAt Pipeline.owesWithin
  rw [show (dats m ρ 0 c).owed t₀.castSucc = O₀ c from rfl]
  iintro ⟨⟨⟨⟨%K, HR, Hl⟩, HcB, Hcr, Hlev⟩, Hsc⟩, ⟨%W, -, HO⟩, ⟨%d0, %g0, %h0, H0⟩, ⟨%d1, %g1, %h1, H1⟩, ⟨%d2, %g2, %h2, H2⟩, ⟨%d3, %g3, %h3, H3⟩, ⟨%d4, %g4, %h4, H4⟩⟩
  ihave H0 := (whl_of c cc0_stg0_0 (h0.trans (before_0 m ρ c d0))) $$ H0
  ihave H1 := (whl_of c cc0_stg1_0 (h1.trans (before_1 m ρ c d1))) $$ H1
  ihave H2 := (whl_of c cc0_stg2_0 (h2.trans (before_2 m ρ c d2))) $$ H2
  ihave H3 := (whl_of c cc0_stg3_0 (h3.trans (before_3 m ρ c d3))) $$ H3
  iexists K; iexists g4
  isplitl [HR Hl HcB Hcr Hlev]
  · isplitl [HR]; · iexact HR
    isplitl [Hl]; · iexact Hl
    isplitl [HcB]; · iexact HcB
    isplitl [Hcr]; · iexact Hcr
    iexact Hlev
  isplitl [Hsc]; · iexact Hsc
  isplitl [HO]; · iexists W; iexact HO
  isplitl [H0]; · iexact H0
  isplitl [H1]; · iexact H1
  isplitl [H2]; · iexact H2
  isplitl [H3]; · iexact H3
  iexact H4

/-- What the body leaves is what the library wants back. -/
theorem bodyPost_post (c : Dev nD) : bodyPost m c ⊢ post m ρ c := by
  unfold post bodyPost Ow Dat.owesAt Pipeline.owesWithin
  rw [show (dats m ρ 0 c).owed t₀.succ = 0 from rfl]
  iintro ⟨Hp, ⟨%W, HO⟩, H0, H1, H2, H3, H4⟩
  isplitl [Hp]; · iexact Hp
  isplitl [HO]
  · iexists W; isplitr; · ipureintro; exact fun _ _ => Or.inl trivial
    iexact HO
  isplitl [H0]; · iapply (stg_of c cc0_stg0_0 (xIn m c)); iexact H0
  isplitl [H1]; · iapply (stg_of c cc0_stg1_0 (rIn m c)); iexact H1
  isplitl [H2]; · iapply (stg_of c cc0_stg2_0 (iIn m c)); iexact H2
  isplitl [H3]; · iapply (stg_of c cc0_stg3_0 (eIn m c)); iexact H3
  iapply (stg_of c cc0_stg4_0 (outAt m c)); iexact H4

set_option maxRecDepth 32768 in
/-- The body's obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show pre m ρ c ⊢ wp frame (wpE (defs₀ (F := F)) 𝒱₀ c none) Set.univ
    (cc0_body xM (Memref.isWhole_whole _) rM (Memref.isWhole_whole _) iM (Memref.isWhole_whole _) eM (Memref.isWhole_whole _)
            oM (Memref.isWhole_whole _) cM (Memref.isWhole_whole _) sM (Memref.isWhole_whole _) gM (Memref.isWhole_whole _)
            cc0_scratch3 cc0_scratch4) (fun _ => post m ρ c)
  iintro H
  ihave H := (pre_bodyPre m ρ c) $$ H
  icases H with ⟨%K, %fo, H⟩
  iapply (sound_body m K c fo fun _ => post m ρ c)
  isplitl [H]; · iexact H
  iintro H; iapply (bodyPost_post m ρ c); iexact H

/-! ## The run -/

/-- What array `w` of device `c` holds at the end. -/
def finalA (c : Dev nD) (w : Fin cfg0.W) : Buf (Elt F) ((cfg0.win w).arr.view.loc (c : Thread nD τ)) := (dats m ρ 0 c).arrAt w cfg0.N

/-- Every array of every device holds that. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 32768 in
/-- On eight devices, for any float values, from any memory with zero counters: every weakly fair execution of @main
    terminates, every array ends at `finalA`, and every semaphore counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.MoeRing

end
-- ==== Proof.Frames.lean ====
/-
# The frames

The programs' frames read off their runs: the arguments end unchanged and every semaphore counter is zero. The kernel's
run is stated once, for any float values, so it gives the frame of the machine's program and of its ideal reading.
-/
module

public import proofs.«01_k».proof.Proof.Run
public import proofs.«01_k».proof.Defs
public import proofs.«01_k».proof.Proof.Gen.Kernel
public import proofs.«01_k».proof.Proof.Gen.ReferenceIdeal.Run
public import Idealize.ShloMosaic.Lib.Quiescent

@[expose] public section

noncomputable section

namespace Cert.MoeRing

open Cert.KernelIdeal Cert.KernelIdeal.Gen

open Idealize.ShloMosaic
open Idealize.ShloMosaic.TcCoe
open Idealize.SL Idealize.SL.RA Idealize.SL.BI
open Idealize.SL.Sem

variable {F : FTy → Type} [FloatOps F]

/-- On every device the four argument arrays of a final state are what they were at the start. -/
theorem args_kept (m : (ℓ : Loc nD τ sig) → Buf (Elt F) ℓ) (ρ : Dev nD → PrngReg) {r : PUnit × MemSt nD τ sig (Elt F)}
    (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(h c (0 : Fin 5)).trans ((dats (F := F) m ρ 0 c).arrAt_in (0 : Fin 5) rfl _),
    (h c (1 : Fin 5)).trans ((dats (F := F) m ρ 0 c).arrAt_in (1 : Fin 5) rfl _),
    (h c (2 : Fin 5)).trans ((dats (F := F) m ρ 0 c).arrAt_in (2 : Fin 5) rfl _),
    (h c (3 : Fin 5)).trans ((dats (F := F) m ρ 0 c).arrAt_in (3 : Fin 5) rfl _)⟩

/-- The frame of the kernel's program, for any float values. -/
theorem frame_any (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => args_kept m ρ h.1 c, h.2⟩) (run_main m ρ)

set_option maxRecDepth 32768 in
/-- The machine's program and its ideal reading have the same body table. -/
theorem bodies_eq : @Cert.Kernel.defs₀ F _ Cert.Kernel.Gen.facts = @Cert.KernelIdeal.defs₀ F _ _ := by
  unfold Cert.Kernel.defs₀ Cert.KernelIdeal.defs₀
  refine congrArg (Defs.onTc (nD := nD) (τ := τ) (sig := sig)) ?_
  funext l a
  obtain ⟨i, hi⟩ := l
  match i, hi with
  | 0, _ => rfl
  | n + 1, h => exact absurd h (Nat.not_lt.2 (Nat.le_add_left _ _))

/-- So they have the same definitions. -/
theorem defs_eq : @Cert.Kernel.defs F _ Cert.Kernel.Gen.facts = @Cert.KernelIdeal.defs F _ _ :=
  congrArg (Pipeline.defs (Cert.KernelIdeal.pcfgs (F := F))) bodies_eq

/-- The kernel's frame, for the program as it runs on the machine. -/
theorem frame_kernel : Cert.quiescent_Kernel (hKernel := Cert.Kernel.Gen.facts) := fun m ρ _ => by
  have h := frame_any (F := Bits) m ρ
  rw [← defs_eq] at h
  exact h

/-- The reference's frame. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

end Cert.MoeRing

end
-- ==== Proof.Math.lean ====
/-
# The mathematics: gating all experts and adding, against adding the two chosen ones

Over the extended reals, for one token: `P e > 0` real for every expert `e`, two chosen experts `a` and `b` (perhaps the
same). The kernel's gate is `P e / Σ P` over the chosen experts and zero elsewhere, and its result the sum over all 64
experts of the gated row times the expert's column; the reference's result is the two chosen experts' columns weighted by
`p_a/(p_a+p_b)` and `p_b/(p_a+p_b)` with `p = P / Σ_e P e`. The weights of the experts need not be finite.
-/
module

public import Idealize.ShloMosaic.Lib.IdealHost
public import Mathlib.Data.EReal.Inv
public import Mathlib.Algebra.BigOperators.Fin

@[expose] public section

noncomputable section

namespace Cert.MoeRing.Math

open Idealize.ShloMosaic
open scoped BigOperators

/-- `exp` of a row's scores shifted by their maximum (the maximum taken from minus infinity). -/
def expS (S : Fin 64 → EReal) (e : Fin 64) : EReal :=
  Ideal.exp (S e - Finset.fold max (Ideal.ofBits FTy.f32 4286578688#32) (fun e' : Fin 64 => S e') Finset.univ)

/-- One where `e` is one of the two chosen experts, zero elsewhere. -/
def msk (a b e : Fin 64) : EReal := if e = a ∨ e = b then 1 else 0

/-- The gate of expert `e` among the chosen `a` and `b`. -/
def gate (P : Fin 64 → EReal) (a b e : Fin 64) : EReal := Ideal.div (P e * msk a b e) (∑ e' : Fin 64, P e' * msk a b e')

/-- The word of minus infinity. -/
theorem negInf : Ideal.ofBits FTy.f32 4286578688#32 = ⊥ := by simp [Ideal.ofBits, Ideal.ieee]
/-- The word of plus infinity. -/
theorem posInf : Ideal.ofBits FTy.f32 2139095040#32 = ⊤ := by simp [Ideal.ofBits, Ideal.ieee]

/-- A finite sum of reals is a real. -/
theorem coe_sum {ι : Type*} (s : Finset ι) (f : ι → ℝ) : ((∑ i ∈ s, f i : ℝ) : EReal) = ∑ i ∈ s, (f i : EReal) := by
  classical
  induction s using Finset.induction_on with
  | empty => simp
  | insert i s h ih => rw [Finset.sum_insert h, Finset.sum_insert h, EReal.coe_add, ih]

/-- A nonnegative real goes inside a sum, whatever the summands. -/
theorem mul_sum_real {ι : Type*} (s : Finset ι) (g : ℝ) (hg : 0 ≤ g) (f : ι → EReal) :
    (g : EReal) * ∑ i ∈ s, f i = ∑ i ∈ s, (g : EReal) * f i := by
  classical
  induction s using Finset.induction_on with
  | empty => simp
  | insert i s h ih =>
    rw [Finset.sum_insert h, Finset.sum_insert h,
      EReal.left_distrib_of_nonneg_of_ne_top (EReal.coe_nonneg.2 hg) (EReal.coe_ne_top g), ih]

/-- The maximum of a nonempty family of reals is a real. -/
theorem fold_max_real {ι : Type*} (s : Finset ι) (f : ι → ℝ) (hs : s.Nonempty) :
    ∃ M : ℝ, Finset.fold max (⊥ : EReal) (fun i => (f i : EReal)) s = M := by
  classical
  induction hs using Finset.Nonempty.cons_induction with
  | singleton i => exact ⟨f i, by simp⟩
  | cons i s h hs ih =>
    obtain ⟨M, hM⟩ := ih
    exact ⟨max (f i) M, by rw [Finset.fold_cons, hM]; exact (EReal.coe_strictMono.monotone.map_max).symm⟩

/-- Real scores have positive real exponentials. -/
theorem expS_real (S : Fin 64 → EReal) (h : ∀ e, ∃ r : ℝ, S e = r) : ∃ p : Fin 64 → ℝ, (∀ e, 0 < p e) ∧ ∀ e, expS S e = p e := by
  choose r hr using h
  obtain ⟨M, hM⟩ := fold_max_real Finset.univ r Finset.univ_nonempty
  refine ⟨fun e => Real.exp (r e - M), fun e => Real.exp_pos _, fun e => ?_⟩
  unfold expS
  rw [negInf]
  simp only [hr]
  rw [hM, ← EReal.coe_sub]
  rfl

/-- A score of finite rows and finite router weights is real. -/
theorem score_real (x : Fin 1024 → EReal) (w : Fin 1024 → EReal) (hx : ∀ k, ∃ r : ℝ, x k = r) (hw : ∀ k, ∃ r : ℝ, w k = r) :
    ∃ r : ℝ, ∑ k, x k * w k = r := by
  choose f hf using hx
  choose g hg using hw
  refine ⟨∑ k, f k * g k, ?_⟩
  rw [coe_sum]
  refine Finset.sum_congr rfl fun k _ => ?_
  rw [hf, hg, EReal.coe_mul]

/-- What the chosen experts' exponentials add up to. -/
def pick (p : Fin 64 → ℝ) (a b : Fin 64) : ℝ := ∑ e : Fin 64, if e = a ∨ e = b then p e else 0

/-- The gate is a nonnegative real: the chosen expert's share of the chosen experts' sum, zero elsewhere. -/
theorem gate_real (p : Fin 64 → ℝ) (hp : ∀ e, 0 < p e) (a b e : Fin 64) :
    gate (fun e => (p e : EReal)) a b e = (((if e = a ∨ e = b then p e / pick p a b else 0) : ℝ) : EReal) := by
  have hm : ∀ e, (p e : EReal) * msk a b e = (((if e = a ∨ e = b then p e else 0) : ℝ) : EReal) := by
    intro e
    unfold msk
    split_ifs <;> simp
  have hpos : 0 < pick p a b := by
    unfold pick
    refine Finset.sum_pos' (fun e _ => ?_) ⟨a, Finset.mem_univ _, ?_⟩
    · split_ifs
      · exact (hp e).le
      · exact le_rfl
    · rw [if_pos (Or.inl rfl)]; exact hp a
  unfold gate
  simp only [hm]
  rw [← coe_sum]
  show Ideal.div _ ((pick p a b : ℝ) : EReal) = _
  rw [Ideal.div_coe hpos.ne', ← EReal.coe_mul]
  congr 1
  split_ifs
  · rw [mul_one_div]
  · rw [zero_mul]

/-- What the reference's weights reduce to: the normalisation by all experts cancels. -/
theorem ratio_real (p : Fin 64 → ℝ) (hp : ∀ e, 0 < p e) (a b : Fin 64) :
    Ideal.div (Ideal.div (p a : EReal) (∑ e, (p e : EReal)))
      (Ideal.div (p a : EReal) (∑ e, (p e : EReal)) + Ideal.div (p b : EReal) (∑ e, (p e : EReal)))
      = ((p a / (p a + p b) : ℝ) : EReal) := by
  have hS : 0 < ∑ e, p e := Finset.sum_pos (fun e _ => hp e) Finset.univ_nonempty
  have ha := hp a
  have hb := hp b
  rw [← coe_sum, Ideal.div_coe hS.ne', Ideal.div_coe hS.ne', ← EReal.coe_mul, ← EReal.coe_mul, ← EReal.coe_add]
  have h2 : 0 < p a * (1 / ∑ e, p e) + p b * (1 / ∑ e, p e) := by positivity
  rw [Ideal.div_coe h2.ne', ← EReal.coe_mul]
  congr 1
  field_simp

/-- For one token and one column: all experts' gated products added up are the two chosen experts' products, weighted. -/
theorem gated_sum (p : Fin 64 → ℝ) (hp : ∀ e, 0 < p e) (a b : Fin 64) (x : Fin 1024 → EReal) (w : Fin 64 → Fin 1024 → EReal) :
    ∑ e : Fin 64, ∑ k : Fin 1024, x k * gate (fun e => (p e : EReal)) a b e * w e k
      = ((p a / (p a + p b) : ℝ) : EReal) * (∑ k : Fin 1024, x k * w a k)
        + ((p b / (p b + p a) : ℝ) : EReal) * (∑ k : Fin 1024, x k * w b k) := by
  have hpick0 : 0 ≤ pick p a b := Finset.sum_nonneg fun e _ => by
    split_ifs
    · exact (hp e).le
    · exact le_rfl
  have h1 : ∀ e, ∑ k : Fin 1024, x k * gate (fun e => (p e : EReal)) a b e * w e k
      = (((if e = a ∨ e = b then p e / pick p a b else 0) : ℝ) : EReal) * ∑ k : Fin 1024, x k * w e k := by
    intro e
    rw [gate_real p hp, mul_sum_real _ _ (by
      split_ifs
      · exact div_nonneg (hp e).le hpick0
      · exact le_rfl)]
    refine Finset.sum_congr rfl fun k _ => ?_
    rw [mul_comm (x k), mul_assoc]
  simp only [h1]
  have ha := hp a
  have hb := hp b
  by_cases hab : a = b
  · subst hab
    have hpick : pick p a a = p a := by
      unfold pick
      simp
    rw [Finset.sum_eq_single a (fun e _ he => by
      rw [if_neg (by simp [he]), EReal.coe_zero, zero_mul]) (fun h => absurd (Finset.mem_univ _) h)]
    rw [if_pos (Or.inl rfl), hpick, ← EReal.right_distrib_of_nonneg
      (EReal.coe_nonneg.2 (by positivity)) (EReal.coe_nonneg.2 (by positivity)), ← EReal.coe_add]
    congr 2
    field_simp
  · have hpick : pick p a b = p a + p b := by
      unfold pick
      rw [← Finset.sum_filter, show (Finset.univ.filter fun e : Fin 64 => e = a ∨ e = b) = {a, b} by
        ext e; simp, Finset.sum_pair hab]
    rw [← Finset.sum_subset (Finset.subset_univ ({a, b} : Finset (Fin 64))) (fun e _ he => by
      rw [if_neg (by simpa using he), EReal.coe_zero, zero_mul]), Finset.sum_pair hab,
      if_pos (Or.inl rfl), if_pos (Or.inr rfl), hpick, add_comm (p b) (p a)]

/-- The eight devices' eight experts are the 64 experts. -/
theorem sum_experts (f : Fin 64 → EReal) :
    ∑ d : Fin 8, ∑ j : Fin 8, f ⟨8 * d.val + j.val, by omega⟩ = ∑ e : Fin 64, f e := by
  rw [← Finset.sum_product', Finset.univ_product_univ]
  exact Fintype.sum_equiv (finProdFinEquiv (m := 8) (n := 8)) _ _ fun ij => congrArg f (Fin.ext (by
    simp [finProdFinEquiv]; omega))

end Cert.MoeRing.Math
end
-- ==== Proof.Pre.lean ====
/-
# What the precondition says

`inputs_ok` is all ones exactly when every index of the routing table lies in `0 … 63` and the rows and the router weights
are finite. Here: its shape facts, and what it gives.
-/
module

public import proofs.«01_k».proof.Pre_inputs_ok_KernelIdeal
public import proofs.«01_k».proof.Pre_inputs_ok_ReferenceIdeal
public import proofs.«01_k».proof.Proof.Math
public import Idealize.ShloMosaic.Lib.ReduceAll
public import Idealize.ShloMosaic.Lib.StableHlo.Predicate

@[expose] public section

noncomputable section

namespace Cert.MoeRing.Pre

open Idealize.ShloMosaic

/-- The shape facts of the precondition on the kernel's arguments. -/
theorem facts : Cert.Pre_inputs_ok_KernelIdeal.Facts where
  bcast_S_S2048x2 := by decide
  reducesTo_S2048x2_S_d0_1 := by decide
  h_S_ := by decide
  bcast_S_S2048x1024 := by decide
  reducesTo_S2048x1024_S_d0_1 := by decide
  bcast_S_S1024x64 := by decide
  reducesTo_S1024x64_S_d0_1 := by decide

/-- The shape facts of the precondition on the reference's arguments. -/
theorem factsRef : Cert.Pre_inputs_ok_ReferenceIdeal.Facts where
  bcast_S_S2048x2 := by decide
  reducesTo_S2048x2_S_d0_1 := by decide
  h_S_ := by decide
  bcast_S_S2048x1024 := by decide
  reducesTo_S2048x1024_S_d0_1 := by decide
  bcast_S_S1024x64 := by decide
  reducesTo_S1024x64_S_d0_1 := by decide

/-- A value whose absolute value is below plus infinity is a real. -/
theorem real_of_abs_lt (x : EReal) (h : Ideal.cmp .olt (max x (-x)) (Ideal.ofBits FTy.f32 2139095040#32) = 1#1) : ∃ r : ℝ, x = r := by
  rw [Math.posInf] at h
  have h1 : max x (-x) < ⊤ := by
    by_contra hn
    simp [Ideal.cmp, hn] at h
  induction x using EReal.rec with
  | bot => simp at h1
  | top => simp at h1
  | coe r => exact ⟨r, rfl⟩

/-- A word that reads, signed, at least 0 and below 64 has a value below 64. -/
theorem small_of_cmp (a : BitVec 32) (h : IntOp.andi (IntOp.cmpi .sge a 0#32) (IntOp.cmpi .slt a 64#32) = 1#1) : a.toNat < 64 := by
  obtain ⟨h0, h1⟩ := IntOp.andi_eq_one.1 h
  simp only [IntOp.cmpi, StableHlo.Predicate.ofBool_eq_one_iff, BitVec.sle, BitVec.slt, decide_eq_true_eq,
    BitVec.toInt_eq_toNat_cond, BitVec.toNat_ofNat] at h0 h1
  omega

attribute [local instance] facts in
/-- The precondition gives: indices in range, rows and router weights real. -/
theorem decode (x : FVec Ideal ⟨2, ![2048, 1024]⟩ .f32) (r : FVec Ideal ⟨2, ![1024, 64]⟩ .f32) (i : IVec ⟨2, ![2048, 2]⟩ 32)
    (w : FVec Ideal ⟨3, ![8, 1024, 1024]⟩ .f32)
    (h : Cert.Pre_inputs_ok_KernelIdeal.fn (F := Ideal) x r i w = fun _ => 1#1) :
    (∀ j, (i j).toNat < 64) ∧ (∀ j, ∃ v : ℝ, (x j : EReal) = v) ∧ (∀ j, ∃ v : ℝ, (r j : EReal) = v) := by
  have h' := congrFun h (Shape.Idx.first facts.h_S_)
  obtain ⟨ha, hb⟩ := IntOp.andi_eq_one.1 h'
  obtain ⟨hb, hc⟩ := IntOp.andi_eq_one.1 hb
  haveI : Subsingleton (Cert.Pre_inputs_ok_KernelIdeal.S_).Idx := ⟨fun a b => funext fun k => k.elim0⟩
  refine ⟨fun j => small_of_cmp _ (Host.reduce_andi_all _ _ _ _ _ ha j),
    fun j => real_of_abs_lt _ (Host.reduce_andi_all _ _ _ _ _ hb j), fun j => real_of_abs_lt _ (Host.reduce_andi_all _ _ _ _ _ hc j)⟩

end Cert.MoeRing.Pre
end
-- ==== Proof.KernelValue.lean ====
/-
# One device's share, read at an index

The theorems below read what a device computes, entry by entry: the two whole blocks the pipeline brings in are the
argument buffers; the gate of token `n` for the device's expert `j`; and a chunk's share, the sum over the device's eight
experts of the gated rows times the expert's matrix.
-/
module

public import proofs.«01_k».proof.Proof.Common
public import proofs.«01_k».proof.Proof.Math
public import Idealize.ShloMosaic.Lib.Pointwise
public import Idealize.ShloMosaic.Lib.IdealHost
public import Idealize.ShloMosaic.Lib.StableHlo.Predicate

@[expose] public section

noncomputable section

namespace Cert.MoeRing

open Cert.KernelIdeal Cert.KernelIdeal.Gen

open Idealize.ShloMosaic Idealize.ShloMosaic.TcCoe
open scoped BigOperators

section Whole
variable {F : FTy → Type} [FloatOps F] (m : (ℓ : Loc nD τ sig) → Buf (Elt F) ℓ)

/-! The blocks the pipeline brings in are whole argument buffers. -/

/-- The rows brought in are the first argument; -/
theorem xIn_eq (c : Dev nD) : xIn m c = m ((c : Thread nD τ).loc main_arg0) :=
  Memref.read_access_unit_zero (Elt F) main_arg0 (off := fun a => win0_0.index (0 : Fin 1) a * main_arg0.ty.shape.size a)
    (funext fun a => by fin_cases a <;> decide) (fun a => by fin_cases a <;> decide) _
/-- the router weights brought in are the second; -/
theorem rIn_eq (c : Dev nD) : rIn m c = m ((c : Thread nD τ).loc main_arg1) :=
  Memref.read_access_unit_zero (Elt F) main_arg1 (off := fun a => win0_1.index (0 : Fin 1) a * main_arg1.ty.shape.size a)
    (funext fun a => by fin_cases a <;> decide) (fun a => by fin_cases a <;> decide) _
/-- the routing table brought in is the third; -/
theorem iIn_eq (c : Dev nD) : iIn m c = m ((c : Thread nD τ).loc main_arg2) :=
  Memref.read_access_unit_zero (Elt F) main_arg2 (off := fun a => win0_2.index (0 : Fin 1) a * main_arg2.ty.shape.size a)
    (funext fun a => by fin_cases a <;> decide) (fun a => by fin_cases a <;> decide) _
/-- the expert matrices brought in are the fourth. -/
theorem eIn_eq (c : Dev nD) : eIn m c = m ((c : Thread nD τ).loc main_arg3) :=
  Memref.read_access_unit_zero (Elt F) main_arg3 (off := fun a => win0_3.index (0 : Fin 1) a * main_arg3.ty.shape.size a)
    (funext fun a => by fin_cases a <;> decide) (fun a => by fin_cases a <;> decide) _

end Whole

/-! ## Loads at an index -/

/-- A load of chunk `d` of the rows. -/
theorem xRead_at (X : Vec Ideal S2048x1024 .f32) (d : Fin 8) (h) (n : Fin 256) (k : Fin 1024) :
    (xM.view.readAt (Elt Ideal) (Rect.unit (s := S2048x1024) ![256 * d.val, 0] S256x1024.size h).toLoadRect X : Vec Ideal S256x1024 .f32) (ix2 n k)
      = X (ix2 ⟨256 * d.val + n.val, by omega⟩ k) := by
  rw [View.readAt_apply]
  pointwise
  rfl

/-- A load of chunk `d` of the gates. -/
theorem gRead_at (X : Vec Ideal S2048x8 .f32) (d : Fin 8) (h) (n : Fin 256) (j : Fin 8) :
    (gM.view.readAt (Elt Ideal) (Rect.unit (s := S2048x8) ![256 * d.val, 0] S256x8.size h).toLoadRect X : Vec Ideal S256x8 .f32) (ix2 n j)
      = X (ix2 ⟨256 * d.val + n.val, by omega⟩ j) := by
  rw [View.readAt_apply]
  pointwise
  rfl

/-- A load of expert matrix `j`. -/
theorem eRead_at (X : Vec Ideal S8x1024x1024 .f32) (j : Fin 8) (h) (k q : Fin 1024) :
    (eM.view.readAt (Elt Ideal) (Rect.unit (s := S8x1024x1024) ![j.val, 0, 0] S1x1024x1024.size h).toLoadRect X : Vec Ideal S1x1024x1024 .f32) (ix3 0 k q)
      = X (ix3 j k q) := by
  rw [View.readAt_apply]
  pointwise
  rfl

/-- A load of all rows. -/
theorem xWhole_at (X : Vec Ideal S2048x1024 .f32) (h) (n : Fin 2048) (k : Fin 1024) :
    (xM.view.readAt (Elt Ideal) (Rect.unit (s := S2048x1024) ![0, 0] S2048x1024.size h).toLoadRect X : Vec Ideal S2048x1024 .f32) (ix2 n k)
      = X (ix2 n k) := by
  rw [View.readAt_apply]
  pointwise
  rfl

/-- A load of all router weights. -/
theorem rWhole_at (X : Vec Ideal S1024x64 .f32) (h) (k : Fin 1024) (e : Fin 64) :
    (rM.view.readAt (Elt Ideal) (Rect.unit (s := S1024x64) ![0, 0] S1024x64.size h).toLoadRect X : Vec Ideal S1024x64 .f32) (ix2 k e)
      = X (ix2 k e) := by
  rw [View.readAt_apply]
  pointwise
  rfl

/-- A load of column `s` of the routing table. -/
theorem iRead_at (X : Vec Ideal S2048x2 .i32) (s : Fin 2) (h) (n : Fin 2048) :
    (iM.view.readAt (Elt Ideal) (Rect.unit (s := S2048x2) ![0, s.val] S2048x1.size h).toLoadRect X : Vec Ideal S2048x1 .i32) (ix2 n 0)
      = X (ix2 n s) := by
  rw [View.readAt_apply]
  pointwise
  rfl

/-! ## Entries of the buffers -/

section Entries
variable (m : (ℓ : Loc nD τ sig) → Buf (Elt Ideal) ℓ) (d : Dev nD)

/-- Entries of device `d`'s argument buffers: rows, router weights, chosen experts, the device's eight expert matrices. -/
def aX (n : Fin 2048) (k : Fin 1024) : EReal := (m ((d : Thread nD τ).loc main_arg0) : Vec Ideal S2048x1024 .f32) (ix2 n k)
@[inherit_doc aX] def aR (k : Fin 1024) (e : Fin 64) : EReal := (m ((d : Thread nD τ).loc main_arg1) : Vec Ideal S1024x64 .f32) (ix2 k e)
@[inherit_doc aX] def aI (n : Fin 2048) (s : Fin 2) : BitVec 32 := (m ((d : Thread nD τ).loc main_arg2) : Vec Ideal S2048x2 .i32) (ix2 n s)
@[inherit_doc aX] def aW (j : Fin 8) (k q : Fin 1024) : EReal :=
  (m ((d : Thread nD τ).loc main_arg3) : Vec Ideal S8x1024x1024 .f32) (ix3 j k q)
/-- An entry of the gates device `d` computes. -/
def aG (n : Fin 2048) (j : Fin 8) : EReal := (gAt m d : Vec Ideal S2048x8 .f32) (ix2 n j)

end Entries

/-! ## One chunk's share -/

/-- One gated expert product at an index. -/
theorem expertDot_at (xs : FVec Ideal S256x1024 .f32) (g : Vec Ideal S256x8 .f32) (j : Fin 8) (h : S256x8.Slices ![0, j.val] S256x1)
    (w : Vec Ideal S1x1024x1024 .f32) (n : Fin 256) (q : Fin 1024) :
    expertDot xs g ![0, j.val] h w (ix2 n q) = ∑ k : Fin 1024, xs (ix2 n k) * g (ix2 n j) * w (ix3 0 k q) := by
  pointwise [expertDot]

/-- The eight experts' products, added. -/
theorem chunkVal_at (x : Vec Ideal S256x1024 .f32) (g : Vec Ideal S256x8 .f32) (w : Fin 8 → Vec Ideal S1x1024x1024 .f32)
    (n : Fin 256) (q : Fin 1024) :
    chunkVal x g (w 0) (w 1) (w 2) (w 3) (w 4) (w 5) (w 6) (w 7) (ix2 n q)
      = ∑ j : Fin 8, ∑ k : Fin 1024, x (ix2 n k) * g (ix2 n j) * w j (ix3 0 k q) := by
  pointwise [chunkVal]
  rw [Fin.sum_univ_eight]
  have h := fun (j : Fin 8) h => expertDot_at x g j h (w j) n q
  exact congr (congrArg HAdd.hAdd (congr (congrArg HAdd.hAdd (congr (congrArg HAdd.hAdd (congr (congrArg HAdd.hAdd
    (congr (congrArg HAdd.hAdd (congr (congrArg HAdd.hAdd (congr (congrArg HAdd.hAdd (h 0 _)) (h 1 _))) (h 2 _))) (h 3 _)))
    (h 4 _))) (h 5 _))) (h 6 _))) (h 7 _)

/-- Row `n` of chunk `ch`, device `d`'s share. -/
def share (m : (ℓ : Loc nD τ sig) → Buf (Elt Ideal) ℓ) (d : Dev nD) (ch : Fin 8) (n : Fin 256) (q : Fin 1024) : EReal :=
  ∑ j : Fin 8, ∑ k : Fin 1024, aX m d ⟨256 * ch.val + n.val, by omega⟩ k * aG m d ⟨256 * ch.val + n.val, by omega⟩ j * aW m d j k q

/-- The rows of chunk `ch` through device `c`'s experts are its share of the chunk. -/
theorem partAt_at (m : (ℓ : Loc nD τ sig) → Buf (Elt Ideal) ℓ) (c : Dev nD) (off off' : Fin 2 → ℕ) (h h') (ch : Fin 8)
    (e : off = ![256 * ch.val, 0]) (e' : off' = ![256 * ch.val, 0]) (n : Fin 256) (q : Fin 1024) :
    partAt m c off off' h h' (ix2 n q) = share m c ch n q := by
  subst e e'
  have hin : ∀ j : Fin 8, ∀ a, (![j.val, 0, 0] : Fin 3 → ℕ) a + S1x1024x1024.size a ≤ S8x1024x1024.size a := by
    intro j a
    fin_cases a <;> fin_cases j <;> decide
  unfold partAt share
  refine (chunkVal_at _ _ (fun j => (eM.view.readAt (Elt Ideal)
    (Rect.unit (s := S8x1024x1024) ![j.val, 0, 0] S1x1024x1024.size (hin j)).toLoadRect (eIn m c) : Vec Ideal S1x1024x1024 .f32)) n q).trans ?_
  refine Finset.sum_congr rfl fun j _ => Finset.sum_congr rfl fun k _ => ?_
  rw [xRead_at, gRead_at, eRead_at, xIn_eq, eIn_eq]
  rfl

/-! ## The ring's sum -/

/-- What device `c` computes at step `s` is its share of the chunk `s + 1` places to the left. -/
theorem stepPart_at (m : (ℓ : Loc nD τ sig) → Buf (Elt Ideal) ℓ) (c : Dev nD) (s : Fin 7) (n : Fin 256) (q : Fin 1024) :
    stepPart m c s (ix2 n q) = share m c ⟨((c.val + 7) - s.val) % 8, Nat.mod_lt _ (by decide)⟩ n q :=
  partAt_at m c _ _ _ _ ⟨((c.val + 7) - s.val) % 8, Nat.mod_lt _ (by decide)⟩ (k0_off1_eq c s) (k0_off2_eq c s) n q

/-- The last products are its share of its own chunk. -/
theorem ownPart_at (m : (ℓ : Loc nD τ sig) → Buf (Elt Ideal) ℓ) (c : Dev nD) (n : Fin 256) (q : Fin 1024) :
    ownPart m c (ix2 n q) = share m c c n q :=
  partAt_at m c _ _ _ _ c (k0_off3_eq c) (k0_off4_eq c) n q

/-- What device `c` sends on at step `s`: the shares of the chunk `ch` it passes on, of the `s + 1` devices from `c` leftwards. -/
theorem ringVal_at (m : (ℓ : Loc nD τ sig) → Buf (Elt Ideal) ℓ) (s : ℕ) (hs : s < 7) (c : Dev nD) (ch : Fin 8)
    (hch : ch.val = ((c.val + 7) - s) % 8) (n : Fin 256) (q : Fin 1024) :
    ringVal m s c (ix2 n q) = ∑ i ∈ Finset.range (s + 1), share m (prv^[i] c) ch n q := by
  have hc : c.val < 8 := c.isLt
  induction s generalizing c with
  | zero =>
    rw [Finset.sum_range_one]
    show stepPart m c 0 (ix2 n q) = _
    rw [stepPart_at]
    exact congrArg (fun ch => share m c ch n q) (Fin.ext hch.symm)
  | succ s ih =>
    have e : (Fin.ofNat 7 (s + 1)).val = s + 1 := Nat.mod_eq_of_lt hs
    have hp : (prv c).val = (c.val + 7) % 8 := rfl
    rw [Finset.sum_range_succ', add_comm (∑ k ∈ Finset.range (s + 1), share m (prv^[k + 1] c) ch n q)]
    refine congr (congrArg HAdd.hAdd ?_) (ih (by omega) (prv c) (by rw [hp]; omega) (prv c).isLt)
    refine (stepPart_at m c (Fin.ofNat 7 (s + 1)) n q).trans ?_
    exact congrArg (fun ch => share m c ch n q) (Fin.ext (by show _ % 8 = _; rw [e, hch]))

/-- The block a device ends with: the shares of its chunk of all eight devices, added. -/
theorem outAt_at (m : (ℓ : Loc nD τ sig) → Buf (Elt Ideal) ℓ) (c : Dev nD) (n : Fin 256) (q : Fin 1024) :
    (outAt m c : Vec Ideal S256x1024 .f32) (ix2 n q) = ∑ d : Fin 8, share m d c n q := by
  have hch : ∀ c : Dev nD, c.val = (((prv c).val + 7) - 6) % 8 := by decide
  have hb : ∀ c : Dev nD, Function.Bijective fun i : Fin 8 => prv^[i.val] c := by decide
  show ringVal m 6 (prv c) (ix2 n q) + ownPart m c (ix2 n q) = _
  rw [ownPart_at, ringVal_at m 6 (by decide) (prv c) c (hch c), ← Fintype.sum_bijective _ (hb c) (fun i : Fin 8 => share m (prv^[i.val] c) c n q) _
    (fun _ => rfl), ← Finset.sum_range (fun i => share m (prv^[i] c) c n q) (n := 8), Finset.sum_range_succ' _ 7]
  rfl

/-! ## The gates -/

/-- The exponentials the kernel computes, at an index. -/
theorem pay1_at (x : Vec Ideal S2048x1024 .f32) (r : Vec Ideal S1024x64 .f32) (n : Fin 2048) (e : Fin 64) :
    k0_pay1 x r (ix2 n e) = Math.expS (fun e => ∑ k : Fin 1024, x (ix2 n k) * r (ix2 k e)) e := by
  pointwise [k0_pay1]
  rfl

/-- The mask word of expert `e` read as a number. -/
theorem mask_at (a b : BitVec 32) (a' b' : Fin 64) (ha : a.toNat = a'.val) (hb : b.toNat = b'.val) (e : Fin 64) :
    (FloatOps.sitofp (F := Ideal) .f32 (BitVec.setWidth 32 (IntOp.ori (IntOp.cmpi .eq (BitVec.ofNat 32 e.val) a)
      (IntOp.cmpi .eq (BitVec.ofNat 32 e.val) b))) : EReal) = Math.msk a' b' e := by
  have h : ∀ (w : BitVec 32) (w' : Fin 64) (hw : w.toNat = w'.val), IntOp.cmpi .eq (BitVec.ofNat 32 e.val) w = if e = w' then 1#1 else 0#1 := by
    intro w w' hw
    have he : BitVec.ofNat 32 e.val = w ↔ e = w' := by
      rw [← BitVec.toNat_inj, BitVec.toNat_ofNat, Nat.mod_eq_of_lt (by omega), hw, Fin.ext_iff]
    split_ifs with h1
    · exact StableHlo.Predicate.cmpi_eq_iff.2 (he.2 h1)
    · show BitVec.ofBool (BitVec.ofNat 32 e.val == w) = 0#1
      rw [beq_eq_false_iff_ne.2 (fun h2 => h1 (he.1 h2))]
      rfl
  rw [h a a' ha, h b b' hb]
  unfold Math.msk
  show (((BitVec.setWidth 32 _ : BitVec 32).toInt : ℝ) : EReal) = _
  by_cases h1 : e = a' <;> by_cases h2 : e = b'
  · rw [if_pos h1, if_pos h2, if_pos (Or.inl h1)]
    norm_num [IntOp.ori]
  · rw [if_pos h1, if_neg h2, if_pos (Or.inl h1)]
    norm_num [IntOp.ori]
  · rw [if_neg h1, if_pos h2, if_pos (Or.inr h2)]
    norm_num [IntOp.ori]
  · rw [if_neg h1, if_neg h2, if_neg (not_or.2 ⟨h1, h2⟩)]
    norm_num [IntOp.ori]

/-- The word that picks the device's expert `j` read as a number. -/
theorem sel_at (c : Dev nD) (j : Fin 8) (e : Fin 64) :
    (FloatOps.sitofp (F := Ideal) .f32 (BitVec.setWidth 32 (IntOp.cmpi .eq (BitVec.ofNat 32 e.val)
      (IntOp.addi (Scalar.muli (devWord c) 8#32) (BitVec.ofNat 32 j.val)))) : EReal)
      = if e = ⟨8 * c.val + j.val, by have := c.isLt; change c.val < 8 at this; omega⟩ then 1 else 0 := by
  have hc : c.val < 8 := c.isLt
  have hd : ∀ c : Dev nD, Scalar.muli (devWord c) 8#32 = BitVec.ofNat 32 (8 * c.val) := by decide
  have hs : IntOp.addi (Scalar.muli (devWord c) 8#32) (BitVec.ofNat 32 j.val) = BitVec.ofNat 32 (8 * c.val + j.val) := by
    rw [hd]
    exact (BitVec.ofNat_add _ _).symm
  rw [hs]
  have he : BitVec.ofNat 32 e.val = BitVec.ofNat 32 (8 * c.val + j.val) ↔ e.val = 8 * c.val + j.val := by
    rw [← BitVec.toNat_inj, BitVec.toNat_ofNat, BitVec.toNat_ofNat, Nat.mod_eq_of_lt (by omega), Nat.mod_eq_of_lt (by omega)]
  show (((BitVec.setWidth 32 _ : BitVec 32).toInt : ℝ) : EReal) = _
  by_cases h1 : e.val = 8 * c.val + j.val
  · rw [if_pos (Fin.ext h1), StableHlo.Predicate.cmpi_eq_iff.2 (he.2 h1)]
    norm_num
  · rw [if_neg (fun h => h1 (congrArg Fin.val h))]
    rw [show IntOp.cmpi .eq (BitVec.ofNat 32 e.val) (BitVec.ofNat 32 (8 * c.val + j.val)) = 0#1 from by
      show BitVec.ofBool (BitVec.ofNat 32 e.val == BitVec.ofNat 32 (8 * c.val + j.val)) = 0#1
      rw [beq_eq_false_iff_ne.2 (fun h2 => h1 (he.1 h2))]
      rfl]
    norm_num

/-- The device's expert `j` among all 64. -/
abbrev expertOf (c : Fin 8) (j : Fin 8) : Fin 64 := ⟨8 * c.val + j.val, by omega⟩

/-- The gates read at an index: the chosen experts' shares, at the device's own expert `8 c + j`. -/
theorem gateVal_at (c : Dev nD) (x : Vec Ideal S2048x1024 .f32) (r : Vec Ideal S1024x64 .f32) (i0 i1 : Vec Ideal S2048x1 .i32)
    (n : Fin 2048) (j : Fin 8) (a b : Fin 64) (ha : (i0 (ix2 n 0)).toNat = a.val) (hb : (i1 (ix2 n 0)).toNat = b.val) :
    gateVal c x r i0 i1 (ix2 n j) = Math.gate (Math.expS fun e => ∑ k : Fin 1024, x (ix2 n k) * r (ix2 k e)) a b (expertOf c j) := by
  unfold gateVal
  pointwise [k0_pay4, k0_pay3, k0_pay2]
  simp only [mask_at _ _ a b ha hb, sel_at, pay1_at]
  rw [Finset.sum_eq_single (expertOf c j)
    (fun e _ he => by rw [if_neg he, mul_zero]) (fun h => absurd (Finset.mem_univ _) h), if_pos rfl, mul_one]
  rfl

/-- The gate of token `n` that device `c` computes for its expert `j`. -/
theorem aG_eq (m : (ℓ : Loc nD τ sig) → Buf (Elt Ideal) ℓ) (c : Dev nD) (n : Fin 2048) (j : Fin 8) (a b : Fin 64)
    (ha : (aI m c n 0).toNat = a.val) (hb : (aI m c n 1).toNat = b.val) :
    aG m c n j = Math.gate (Math.expS fun e => ∑ k : Fin 1024, aX m c n k * aR m c k e) a b (expertOf c j) := by
  unfold aG gAt
  refine (gateVal_at c _ _ _ _ n j a b
    ((congrArg BitVec.toNat ((iRead_at _ 0 inb_S2048x2_S2048x1_0_0 n).trans (congrFun (iIn_eq m c) _))).trans ha)
    ((congrArg BitVec.toNat ((iRead_at _ 1 inb_S2048x2_S2048x1_0_1 n).trans (congrFun (iIn_eq m c) _))).trans hb)).trans ?_
  refine congrArg (fun P => Math.gate P a b (expertOf c j)) (congrArg Math.expS (funext fun e => Finset.sum_congr rfl fun k _ => ?_))
  exact congr (congrArg HMul.hMul ((xWhole_at _ _ n k).trans (congrFun (xIn_eq m c) _)))
      ((rWhole_at _ _ k e).trans (congrFun (rIn_eq m c) _))

end Cert.MoeRing
end
-- ==== Proof.RefValue.lean ====
/-
# The reference's result, read at an index

With `S n e` the score of token `n` for expert `e`, `P n e = exp (S n e - max_e S n e)` and `p n e = P n e / Σ_e P n e`,
the reference's row `n` is `p₀/(p₀+p₁) · (x_n · W[e₀]) + p₁/(p₀+p₁) · (x_n · W[e₁])`, where `e₀`, `e₁` are the token's two
experts. The theorems below read it so, for experts in `0 … 63`.
-/
module

public import proofs.«01_k».proof.Proof.Gen.ReferenceIdeal.Run
public import Idealize.ShloMosaic.Lib.Pointwise
public import Idealize.ShloMosaic.Lib.IdealHost
public import Idealize.ShloMosaic.Lib.ReduceAll
public import Idealize.ShloMosaic.Lib.StableHlo.Predicate

@[expose] public section

noncomputable section

namespace Cert.MoeRing.Ref

open Cert.ReferenceIdeal Cert.ReferenceIdeal.Gen
open Idealize.ShloMosaic Idealize.ShloMosaic.TcCoe
open scoped BigOperators

/-- `exp` of the scores shifted by their row's maximum. -/
def expScore (x : FVec Ideal S2048x1024 .f32) (r : FVec Ideal S1024x64 .f32) : FVec Ideal S2048x64 .f32 :=
  Host.exp (subf (Host.dotGeneral dot_S2048x1024_S1024x64_S2048x64_1_0_0_1_n_n none x r)
    (broadcastInDim S2048x64 ![0, 1] bcast_S2048x1_S2048x64_0_1 (broadcastInDim S2048x1 ![0] bcast_S2048_S2048x1_0
      (Host.reduce FloatOps.maximumf (Host.dotGeneral dot_S2048x1024_S1024x64_S2048x64_1_0_0_1_n_n none x r)
        (constant S_ .f32 0xFF800000#32) reducesTo_S2048x64_S2048_d1 h_S_))))

/-- The softmax of the scores. -/
def prob (x : FVec Ideal S2048x1024 .f32) (r : FVec Ideal S1024x64 .f32) : FVec Ideal S2048x64 .f32 :=
  Host.divf (expScore x r) (broadcastInDim S2048x64 ![0, 1] bcast_S2048x1_S2048x64_0_1
    (broadcastInDim S2048x1 ![0] bcast_S2048_S2048x1_0
      (Host.reduceAdd (expScore x r) (constant S_ .f32 0x00000000#32) reducesTo_S2048x64_S2048_d1 h_S_)))

/-- One column of the routing indices. -/
def col (i : IVec S2048x2 32) (off : Fin 2 → ℕ) (h : S2048x2.Slices off S2048x1) : IVec S2048 32 :=
  shapeCast _ (extractStridedSlice S2048x1 off i h) shapeCasts_S2048x1_S2048

/-- The start indices of the read of `prob`: a negative index counts from the end. -/
def takeAt (k : IVec S2048 32) : IVec S2048x1x1 32 :=
  shapeCast _ (select (cmpi .slt (broadcastInDim S2048x1 ![0] bcast_S2048_S2048x1_0 k)
      (broadcastInDim S2048x1 ![] bcast_S_S2048x1 (constantI S_ 32 0#32)))
    (addi (broadcastInDim S2048x1 ![0] bcast_S2048_S2048x1_0 k) (broadcastInDim S2048x1 ![] bcast_S_S2048x1 (constantI S_ 32 64#32)))
    (broadcastInDim S2048x1 ![0] bcast_S2048_S2048x1_0 k)) shapeCasts_S2048x1_S2048x1x1

/-- Every token's probability of its expert `k`; an expert out of range gets a NaN. -/
def take (p : FVec Ideal S2048x64 .f32) (k : IVec S2048 32) : FVec Ideal S2048x1 .f32 :=
  select (Host.reduce IntOp.andi (andi
      (cmpi .sge (takeAt k) (broadcastInDim S2048x1x1 ![] bcast_S_S2048x1x1 (constantI S_ 32 0#32)))
      (cmpi .sle (takeAt k) (broadcastInDim S2048x1x1 ![0, 1, 2] bcast_S1x1x1_S2048x1x1_0_1_2
        (broadcastInDim S1x1x1 ![2] bcast_S1_S1x1x1_2 (constantI S1 32 63#32)))))
      (constantI S_ 1 1#1) reducesTo_S2048x1x1_S2048x1_d2 h_S_)
    (Host.gather gather_S2048x64_S2048x1x1_S2048x1_n_1_0_0_1_2_11 p (takeAt k))
    (broadcastInDim S2048x1 ![] bcast_S_S2048x1 (constant S_ .f32 0x7FC00000#32))

/-- Every token's row times the weight of its expert `k`. -/
def expertRow (x : FVec Ideal S2048x1024 .f32) (w : FVec Ideal S64x1024x1024 .f32) (k : IVec S2048 32) : FVec Ideal S2048x1024 .f32 :=
  Host.dotGeneral dot_S2048x1024_S2048x1024x1024_S2048x1024_1_1_n_2_0_0 none x
    (Host.gather gather_S64x1024x1024_S2048x1_S2048x1024x1024_12_0_n_n_0_1_110241024 w
      (broadcastInDim S2048x1 ![0] bcast_S2048_S2048x1_0
        (select (cmpi .slt k (broadcastInDim S2048 ![] bcast_S_S2048 (constantI S_ 32 0#32)))
          (addi k (broadcastInDim S2048 ![] bcast_S_S2048 (constantI S_ 32 64#32))) k)))

/-- The two weighted expert rows added, of the probabilities `a`, `b` and the rows `y`, `z`. -/
def mix (a b : FVec Ideal S2048x1 .f32) (y z : FVec Ideal S2048x1024 .f32) : FVec Ideal S2048x1024 .f32 :=
  addf (mulf (broadcastInDim S2048x1024 ![0, 1] bcast_S2048x1_S2048x1024_0_1 (Host.divf a (addf a b))) y)
    (mulf (broadcastInDim S2048x1024 ![0, 1] bcast_S2048x1_S2048x1024_0_1 (Host.divf b (addf a b))) z)

/-- The reference's result of its four arguments. -/
def out (x : FVec Ideal S2048x1024 .f32) (r : FVec Ideal S1024x64 .f32) (i : IVec S2048x2 32) (w : FVec Ideal S64x1024x1024 .f32) :
    FVec Ideal S2048x1024 .f32 :=
  mix (take (prob x r) (col i ![0, 0] slices_S2048x2_S2048x1_0_0)) (take (prob x r) (col i ![0, 1] slices_S2048x2_S2048x1_0_1))
    (expertRow x w (col i ![0, 0] slices_S2048x2_S2048x1_0_0)) (expertRow x w (col i ![0, 1] slices_S2048x2_S2048x1_0_1))

/-- The reference program's result buffer ends at `out` of its arguments. -/
theorem res_eq (m : (ℓ : Loc nD τ sig) → Buf (Elt Ideal) ℓ) (c : Dev nD) :
    Cert.ReferenceIdeal.Value.res_main_v41 m c
      = out (m ((c.tc : Thread nD τ).loc main_arg0)) (m ((c.tc : Thread nD τ).loc main_arg1))
          (m ((c.tc : Thread nD τ).loc main_arg2)) (m ((c.tc : Thread nD τ).loc main_arg3)) := rfl

/-! ## The parts at an index -/

/-- The score of token `n` for expert `e`. -/
def score (x : FVec Ideal S2048x1024 .f32) (r : FVec Ideal S1024x64 .f32) (n : Fin 2048) (e : Fin 64) : EReal :=
  ∑ k : Fin 1024, x (ix2 n k) * r (ix2 k e)

/-- The exponentials at an index. -/
theorem expScore_at (x : FVec Ideal S2048x1024 .f32) (r : FVec Ideal S1024x64 .f32) (n : Fin 2048) (e : Fin 64) :
    expScore x r (ix2 n e) = Ideal.exp (score x r n e
      - Finset.fold max (Ideal.ofBits FTy.f32 4286578688#32) (fun e' : Fin 64 => score x r n e') Finset.univ) := by
  pointwise [expScore, score]

/-- The softmax at an index. -/
theorem prob_at (x : FVec Ideal S2048x1024 .f32) (r : FVec Ideal S1024x64 .f32) (n : Fin 2048) (e : Fin 64) :
    prob x r (ix2 n e) = Ideal.div (expScore x r (ix2 n e)) (∑ e' : Fin 64, expScore x r (ix2 n e')) := by
  pointwise [prob]

/-- The weighted rows at an index. -/
theorem mix_at (a b : FVec Ideal S2048x1 .f32) (y z : FVec Ideal S2048x1024 .f32) (n : Fin 2048) (q : Fin 1024) :
    mix a b y z (ix2 n q) = Ideal.div (a (ix2 n 0)) (a (ix2 n 0) + b (ix2 n 0)) * y (ix2 n q)
      + Ideal.div (b (ix2 n 0)) (a (ix2 n 0) + b (ix2 n 0)) * z (ix2 n q) := by
  pointwise [mix]

/-- The first column is every token's first expert, -/
theorem col0_at (i : IVec S2048x2 32) (n : Fin 2048) : col i ![0, 0] slices_S2048x2_S2048x1_0_0 (ix1 n) = i (ix2 n 0) := by
  pointwise [col]
/-- the second column its second. -/
theorem col1_at (i : IVec S2048x2 32) (n : Fin 2048) : col i ![0, 1] slices_S2048x2_S2048x1_0_1 (ix1 n) = i (ix2 n 1) := by
  pointwise [col]

/-- A word below 64 is not negative, so the wrap of negative indices leaves it. -/
theorem wrap_small (a b : BitVec 32) (h : a.toNat < 64) : Scalar.select (IntOp.cmpi .slt a 0#32) b a = a := by
  have hn : ¬ (IntOp.cmpi .slt a 0#32 = 1#1) := by
    rw [StableHlo.Predicate.slt_iff_toNat (by omega) (by decide)]
    exact Nat.not_lt_zero _
  exact if_neg hn

/-- A word below 64, read signed and clamped into `0 … 63`, is its own value. -/
theorem clamp_small (a : BitVec 32) (h : a.toNat < 64) : min a.toInt.toNat 63 = a.toNat := by
  rw [BitVec.toInt_eq_toNat_of_lt (by omega)]
  simp only [Int.toNat_natCast]
  omega

/-- A start index in range is the expert itself. -/
theorem takeAt_at (k : IVec S2048 32) (n : Fin 2048) (h : (k (ix1 n)).toNat < 64) (a b : Fin 1) : takeAt k (ix3 n a b) = k (ix1 n) := by
  obtain rfl : a = 0 := Subsingleton.elim _ _
  obtain rfl : b = 0 := Subsingleton.elim _ _
  have e : takeAt k (ix3 n 0 0)
      = Scalar.select (IntOp.cmpi .slt (k (ix1 n)) 0#32) (IntOp.addi (k (ix1 n)) 64#32) (k (ix1 n)) := by
    pointwise [takeAt]
  rw [e, wrap_small _ _ h]

/-- The dimension numbers of the read of `prob`. -/
abbrev colDims := gather_S2048x64_S2048x1x1_S2048x1_n_1_0_0_1_2_11
/-- The dimension numbers of the read of the weights. -/
abbrev expertDims := gather_S64x1024x1024_S2048x1_S2048x1024x1024_12_0_n_n_0_1_110241024

/-- The read of `prob` at start indices `idx`: token `n` gets column `idx n`. -/
theorem gatherCol_at (p : FVec Ideal S2048x64 .f32) (idx : IVec S2048x1x1 32) (n : Fin 2048) (h : (idx (ix3 n 0 0)).toNat < 64) :
    Host.gather colDims p idx (ix2 n 0) = p (ix2 n ⟨(idx (ix3 n 0 0)).toNat, h⟩) := by
  unfold Host.gather
  refine congrArg p (funext fun a => Fin.ext ?_)
  match a with
  | ⟨0, _⟩ =>
    show GatherDims.start colDims (ix2 n 0) idx 0
      + GatherDims.batchCoord colDims (ix2 n 0) 0
      + GatherDims.offCoord colDims (ix2 n 0) 0 = n.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ colDims.operandBatchingDims from List.mem_singleton.mpr rfl)]
    rfl
  | ⟨1, _⟩ =>
    show GatherDims.start colDims (ix2 n 0) idx 1
      + GatherDims.batchCoord colDims (ix2 n 0) 1
      + GatherDims.offCoord colDims (ix2 n 0) 1 = (idx (ix3 n 0 0)).toNat
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ colDims.startIndexMap from List.mem_singleton.mpr rfl)]
    have hsi : ∀ c, GatherDims.siIdx colDims (ix2 n 0) c = ix3 n 0 0 := by
      intro c
      funext b
      match b with
      | ⟨0, _⟩ => exact Fin.ext rfl
      | ⟨1, _⟩ => exact Fin.ext rfl
      | ⟨2, _⟩ => exact Subsingleton.elim (α := Fin 1) _ _
    rw [hsi]
    exact clamp_small _ h

/-- The read of the weights at start indices `idx`: token `n` gets the matrix of expert `idx n`. -/
theorem gatherExpert_at (w : FVec Ideal S64x1024x1024 .f32) (idx : IVec S2048x1 32) (n : Fin 2048) (k q : Fin 1024)
    (h : (idx (ix2 n 0)).toNat < 64) :
    Host.gather expertDims w idx (ix3 n k q)
      = w (ix3 ⟨(idx (ix2 n 0)).toNat, h⟩ k q) := by
  unfold Host.gather
  refine congrArg w (funext fun a => Fin.ext ?_)
  match a with
  | ⟨0, _⟩ =>
    show GatherDims.start expertDims (ix3 n k q) idx 0
      + GatherDims.batchCoord expertDims (ix3 n k q) 0
      + GatherDims.offCoord expertDims (ix3 n k q) 0 = (idx (ix2 n 0)).toNat
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ expertDims.startIndexMap from List.mem_singleton.mpr rfl)]
    have hsi : ∀ c, GatherDims.siIdx expertDims (ix3 n k q) c = ix2 n 0 := by
      intro c
      funext b
      match b with
      | ⟨0, _⟩ => exact Fin.ext rfl
      | ⟨1, _⟩ => exact Subsingleton.elim (α := Fin 1) _ _
    rw [hsi]
    exact clamp_small _ h
  | ⟨1, _⟩ =>
    show GatherDims.start expertDims (ix3 n k q) idx 1
      + GatherDims.batchCoord expertDims (ix3 n k q) 1
      + GatherDims.offCoord expertDims (ix3 n k q) 1 = k.val
    rw [GatherDims.batchCoord_eq_zero _ _ _ List.not_mem_nil]
    unfold GatherDims.start
    rw [dif_neg (show ¬ ((1 : Fin 3) ∈ expertDims.startIndexMap) from fun h => absurd (List.mem_singleton.mp h) (by decide))]
    simp only [Nat.zero_add, Nat.add_zero]
    unfold GatherDims.offCoord
    rw [dif_pos (show (1 : Fin 3) ∈ expertDims.sKept from (GatherDims.mem_sKept _ _).mpr ⟨fun h => absurd (List.mem_singleton.mp h) (by decide), List.not_mem_nil⟩)]
    rfl
  | ⟨2, _⟩ =>
    show GatherDims.start expertDims (ix3 n k q) idx 2
      + GatherDims.batchCoord expertDims (ix3 n k q) 2
      + GatherDims.offCoord expertDims (ix3 n k q) 2 = q.val
    rw [GatherDims.batchCoord_eq_zero _ _ _ List.not_mem_nil]
    unfold GatherDims.start
    rw [dif_neg (show ¬ ((2 : Fin 3) ∈ expertDims.startIndexMap) from fun h => absurd (List.mem_singleton.mp h) (by decide))]
    simp only [Nat.zero_add, Nat.add_zero]
    unfold GatherDims.offCoord
    rw [dif_pos (show (2 : Fin 3) ∈ expertDims.sKept from (GatherDims.mem_sKept _ _).mpr ⟨fun h => absurd (List.mem_singleton.mp h) (by decide), List.not_mem_nil⟩)]
    rfl

/-- Experts all in range: token `n` gets its own probability of its expert. -/
theorem take_at (p : FVec Ideal S2048x64 .f32) (k : IVec S2048 32) (hk : ∀ n : Fin 2048, (k (ix1 n)).toNat < 64) (n : Fin 2048) :
    take p k (ix2 n 0) = p (ix2 n ⟨(k (ix1 n)).toNat, hk n⟩) := by
  have hm : (Host.reduce IntOp.andi (andi
      (cmpi .sge (takeAt k) (broadcastInDim S2048x1x1 ![] bcast_S_S2048x1x1 (constantI S_ 32 0#32)))
      (cmpi .sle (takeAt k) (broadcastInDim S2048x1x1 ![0, 1, 2] bcast_S1x1x1_S2048x1x1_0_1_2
        (broadcastInDim S1x1x1 ![2] bcast_S1_S1x1x1_2 (constantI S1 32 63#32)))))
      (constantI S_ 1 1#1) reducesTo_S2048x1x1_S2048x1_d2 h_S_) (ix2 n 0) = 1#1 := by
    refine Host.reduce_andi_one _ _ _ _ _ rfl fun i => ?_
    rw [eq_ix3 i]
    have e := takeAt_at k (i 0) (hk (i 0)) (i 1) (i 2)
    have hs := hk (i 0)
    have e2 : (andi
      (cmpi .sge (takeAt k) (broadcastInDim S2048x1x1 ![] bcast_S_S2048x1x1 (constantI S_ 32 0#32)))
      (cmpi .sle (takeAt k) (broadcastInDim S2048x1x1 ![0, 1, 2] bcast_S1x1x1_S2048x1x1_0_1_2
        (broadcastInDim S1x1x1 ![2] bcast_S1_S1x1x1_2 (constantI S1 32 63#32))))) (ix3 (i 0) (i 1) (i 2))
        = IntOp.andi (IntOp.cmpi .sge (k (ix1 (i 0))) 0#32) (IntOp.cmpi .sle (k (ix1 (i 0))) 63#32) := by
      show IntOp.andi (IntOp.cmpi .sge (takeAt k (ix3 (i 0) (i 1) (i 2))) 0#32) (IntOp.cmpi .sle (takeAt k (ix3 (i 0) (i 1) (i 2))) 63#32) = _
      rw [e]
    rw [e2, (StableHlo.Predicate.sge_iff_toNat (by omega) (by decide)).2 (Nat.zero_le _),
      (StableHlo.Predicate.sle_iff_toNat (by omega) (by decide)).2 (by show _ ≤ 63; omega)]
    rfl
  have et := takeAt_at k n (hk n) 0 0
  unfold take
  show Scalar.select _ (Host.gather _ p (takeAt k) (ix2 n 0)) _ = _
  refine (if_pos hm).trans ?_
  rw [gatherCol_at p (takeAt k) n (by rw [et]; exact hk n)]
  simp only [et]

/-- Expert in range: token `n`'s row times the matrix of its expert. -/
theorem expertRow_at (x : FVec Ideal S2048x1024 .f32) (w : FVec Ideal S64x1024x1024 .f32) (k : IVec S2048 32) (n : Fin 2048) (q : Fin 1024)
    (hk : (k (ix1 n)).toNat < 64) :
    expertRow x w k (ix2 n q) = ∑ l : Fin 1024, x (ix2 n l) * w (ix3 ⟨(k (ix1 n)).toNat, hk⟩ l q) := by
  have dot_at : ∀ v : FVec Ideal S2048x1024x1024 .f32,
      Host.dotGeneral (F := Ideal) dot_S2048x1024_S2048x1024x1024_S2048x1024_1_1_n_2_0_0 none x v (ix2 n q)
        = ∑ l : Fin 1024, x (ix2 n l) * v (ix3 n l q) := by
    intro v
    pointwise
  unfold expertRow
  have ei : (broadcastInDim S2048x1 ![0] bcast_S2048_S2048x1_0
        (select (cmpi .slt k (broadcastInDim S2048 ![] bcast_S_S2048 (constantI S_ 32 0#32)))
          (addi k (broadcastInDim S2048 ![] bcast_S_S2048 (constantI S_ 32 64#32))) k)) (ix2 n 0) = k (ix1 n) := by
    refine Eq.trans ?_ (wrap_small (k (ix1 n)) (IntOp.addi (k (ix1 n)) 64#32) hk)
    pointwise
  rw [dot_at]
  refine Finset.sum_congr rfl fun l _ => ?_
  rw [gatherExpert_at w _ n l q (by rw [ei]; exact hk)]
  simp only [ei]

end Cert.MoeRing.Ref
end
-- ==== Proof.Algebraic.lean ====
/-
# The kernel computes the reference's result

Over the extended reals: every device ends with its 256 rows of the reference's result.
-/
module

public import proofs.«01_k».proof.Defs
public import proofs.«01_k».proof.Proof.Frames
public import proofs.«01_k».proof.Proof.KernelValue
public import proofs.«01_k».proof.Proof.RefValue
public import proofs.«01_k».proof.Proof.Pre
public import Idealize.ShloMosaic.Lib.LayoutAt

@[expose] public section

noncomputable section

namespace Cert.MoeRing

open Idealize.ShloMosaic Idealize.ShloMosaic.TcCoe
open Idealize.SL.Sem
open scoped BigOperators

/-! ## The kernel's result buffer -/

section Final
open Cert.KernelIdeal Cert.KernelIdeal.Gen
variable {F : FTy → Type} [FloatOps F] (m : (ℓ : Loc nD τ sig) → Buf (Elt F) ℓ) (ρ : Dev nD → PrngReg)

/-- The result buffer of device `c` ends at `outAt`. -/
theorem final_out (c : Dev nD) : finalA m ρ c (4 : Fin 5) = outAt m c := by
  have hw : (win0_4.blk (0 : Fin 1)).view.read (Elt F) (finalA m ρ c (4 : Fin 5)) = outAt m c := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from by decide, if_pos rfl]
    exact View.read_write_univ _ _
  refine Eq.trans (Memref.read_access_unit_zero (Elt F) main_v1 (off := fun a => win0_4.index (0 : Fin 1) a * main_v1.ty.shape.size a)
    (funext fun a => by fin_cases a <;> decide) (fun a => by fin_cases a <;> decide) _).symm hw

end Final

/-! ## Blocks of a sharded array -/

/-- Row `n` of block `c` of an array cut in eight by rows is the whole array's row `256 c + n`. -/
theorem block_rows {α : Type} (v : (⟨2, ![2048, 1024]⟩ : Shape).Idx → α) (h : Layout.Tiles ⟨2, ![256, 1024]⟩ ⟨2, ![2048, 1024]⟩ 0 8)
    (c : Fin 8) (n : Fin 256) (q : Fin 1024) :
    Layout.block ⟨2, ![256, 1024]⟩ ⟨2, ![2048, 1024]⟩ 0 8 c v h (ix2 n q) = v (ix2 ⟨256 * c.val + n.val, by omega⟩ q) := by
  rw [Layout.block_apply]
  refine congrArg v (funext fun a => Fin.ext ?_)
  rw [Layout.Tiles.idx_val]
  fin_cases a
  · show c.val * 256 + n.val = 256 * c.val + n.val
    omega
  · rfl

/-- Expert `j` of block `d` of the experts cut in eight is the whole array's expert `8 d + j`. -/
theorem block_experts {α : Type} (v : (⟨3, ![64, 1024, 1024]⟩ : Shape).Idx → α)
    (h : Layout.Tiles ⟨3, ![8, 1024, 1024]⟩ ⟨3, ![64, 1024, 1024]⟩ 0 8) (d j : Fin 8) (k q : Fin 1024) :
    Layout.block ⟨3, ![8, 1024, 1024]⟩ ⟨3, ![64, 1024, 1024]⟩ 0 8 d v h (ix3 j k q) = v (ix3 (expertOf d j) k q) := by
  rw [Layout.block_apply]
  refine congrArg v (funext fun a => Fin.ext ?_)
  rw [Layout.Tiles.idx_val]
  fin_cases a
  · show d.val * 8 + j.val = 8 * d.val + j.val
    omega
  · rfl
  · rfl

/-! ## The reference's result at an index -/

/-- The reference's result, experts in range and rows and router weights real. -/
theorem refOut_at (x : FVec Ideal ⟨2, ![2048, 1024]⟩ .f32) (r : FVec Ideal ⟨2, ![1024, 64]⟩ .f32) (i : IVec ⟨2, ![2048, 2]⟩ 32)
    (w : FVec Ideal ⟨3, ![64, 1024, 1024]⟩ .f32) (hi : ∀ j, (i j).toNat < 64) (n : Fin 2048) (q : Fin 1024) (p : Fin 64 → ℝ)
    (hp : ∀ e, 0 < p e) (hP : ∀ e, Math.expS (fun e => ∑ k : Fin 1024, x (ix2 n k) * r (ix2 k e)) e = p e) (a b : Fin 64)
    (ha : (i (ix2 n 0)).toNat = a.val) (hb : (i (ix2 n 1)).toNat = b.val) :
    Ref.out x r i w (ix2 n q) = ((p a / (p a + p b) : ℝ) : EReal) * (∑ k : Fin 1024, x (ix2 n k) * w (ix3 a k q))
      + ((p b / (p b + p a) : ℝ) : EReal) * (∑ k : Fin 1024, x (ix2 n k) * w (ix3 b k q)) := by
  have h0 := fun n : Fin 2048 => Ref.col0_at i n
  have h1 := fun n : Fin 2048 => Ref.col1_at i n
  have e0 : ∀ h, (⟨(Ref.col i ![0, 0] Cert.ReferenceIdeal.Gen.slices_S2048x2_S2048x1_0_0 (ix1 n)).toNat, h⟩ : Fin 64) = a :=
    fun h => Fin.ext ((congrArg BitVec.toNat (h0 n)).trans ha)
  have e1 : ∀ h, (⟨(Ref.col i ![0, 1] Cert.ReferenceIdeal.Gen.slices_S2048x2_S2048x1_0_1 (ix1 n)).toNat, h⟩ : Fin 64) = b :=
    fun h => Fin.ext ((congrArg BitVec.toNat (h1 n)).trans hb)
  have hs : ∀ e, Ref.expScore x r (ix2 n e) = (p e : EReal) := fun e => (Ref.expScore_at x r n e).trans (hP e)
  have hpr : ∀ e, Ref.prob x r (ix2 n e) = Ideal.div (p e : EReal) (∑ e, (p e : EReal)) := by
    intro e
    rw [Ref.prob_at]
    simp only [hs]
  unfold Ref.out
  rw [Ref.mix_at, Ref.take_at _ _ (fun n => by rw [h0]; exact hi _), Ref.take_at _ _ (fun n => by rw [h1]; exact hi _),
    Ref.expertRow_at _ _ _ _ _ (by rw [h0]; exact hi _), Ref.expertRow_at _ _ _ _ _ (by rw [h1]; exact hi _)]
  simp only [e0, e1, hpr]
  rw [Math.ratio_real p hp a b, add_comm (Ideal.div (p a : EReal) _), Math.ratio_real p hp b a]

/-! ## The claim -/

section Claim
open Cert.KernelIdeal Cert.KernelIdeal.Gen

/-- Row `n` of device `c`'s block: all devices' shares added are the reference's row `256 c + n`. -/
theorem value_at (m : (ℓ : Loc nD τ sig) → Buf (Elt Ideal) ℓ)
    (x : FVec Ideal ⟨2, ![2048, 1024]⟩ .f32) (r : FVec Ideal ⟨2, ![1024, 64]⟩ .f32) (i : IVec ⟨2, ![2048, 2]⟩ 32)
    (w : FVec Ideal ⟨3, ![64, 1024, 1024]⟩ .f32)
    (hx : ∀ d : Dev nD, m ((d : Thread nD τ).loc main_arg0) = x) (hr : ∀ d : Dev nD, m ((d : Thread nD τ).loc main_arg1) = r)
    (hi : ∀ d : Dev nD, m ((d : Thread nD τ).loc main_arg2) = i)
    (hw : ∀ d : Dev nD, m ((d : Thread nD τ).loc main_arg3) = Layout.block ⟨3, ![8, 1024, 1024]⟩ ⟨3, ![64, 1024, 1024]⟩ 0 8 d w)
    (ri : ∀ j, (i j).toNat < 64) (rx : ∀ j, ∃ v : ℝ, (x j : EReal) = v) (rr : ∀ j, ∃ v : ℝ, (r j : EReal) = v)
    (c : Dev nD) (n : Fin 256) (q : Fin 1024) (n' : Fin 2048) (hn : n'.val = 256 * c.val + n.val) :
    (outAt m c : Vec Ideal S256x1024 .f32) (ix2 n q) = Ref.out x r i w (ix2 n' q) := by
  obtain ⟨p, hp, hP⟩ := Math.expS_real (fun e => ∑ k : Fin 1024, x (ix2 n' k) * r (ix2 k e))
    (fun e => Math.score_real _ _ (fun k => rx _) (fun k => rr _))
  rw [refOut_at x r i w ri n' q p hp hP ⟨_, ri (ix2 n' 0)⟩ ⟨_, ri (ix2 n' 1)⟩ rfl rfl]
  refine (outAt_at m c n q).trans (Eq.trans (α := EReal) ?_
    (Math.gated_sum p hp _ _ (fun k => x (ix2 n' k)) (fun e k => w (ix3 e k q))))
  rw [← Math.sum_experts]
  refine Finset.sum_congr rfl fun d _ => Finset.sum_congr rfl fun j _ => Finset.sum_congr rfl fun k _ => ?_
  have hc : c.val < 8 := c.isLt
  have en : (⟨256 * c.val + n.val, by omega⟩ : Fin 2048) = n' := Fin.ext hn.symm
  have eX : ∀ k, aX m d n' k = x (ix2 n' k) := fun k => congrFun (hx d) (ix2 n' k)
  have eR : ∀ k e, aR m d k e = r (ix2 k e) := fun k e => congrFun (hr d) (ix2 k e)
  have eI : ∀ s, aI m d n' s = i (ix2 n' s) := fun s => congrFun (hi d) (ix2 n' s)
  have eW : aW m d j k q = w (ix3 (expertOf d j) k q) := by
    refine (congrFun (hw d) (ix3 j k q)).trans ?_
    exact block_experts w _ d j k q
  have eP : (Math.expS fun e => ∑ k : Fin 1024, x (ix2 n' k) * r (ix2 k e)) = fun e => (p e : EReal) := funext hP
  simp only [en]
  rw [aG_eq m d n' j ⟨_, ri (ix2 n' 0)⟩ ⟨_, ri (ix2 n' 1)⟩ (congrArg BitVec.toNat (eI 0)) (congrArg BitVec.toNat (eI 1))]
  simp only [eX, eR, eW, eP]

end Claim

/-- The kernel's ideal program computes the reference's result, on inputs that meet the precondition. -/
theorem algebraic : Cert.algebraic_KernelIdeal_ReferenceIdeal_pre_inputs_ok_KernelIdeal (hKernelIdeal := Cert.KernelIdeal.Gen.facts)
    (hReferenceIdeal := Cert.ReferenceIdeal.Gen.facts) (hPre_inputs_ok_KernelIdeal := Pre.facts) := by
  intro m g m' g' hpre hagree
  refine ⟨Cert.ReferenceIdeal.Value.res_main_v41 m' 0, ?_, ?_⟩
  · refine (θ_run Cert.KernelIdeal.defs _ _).mono (fun r h c => ⟨?_, args_kept m g h.1 c⟩) (run_main (F := Ideal) m g)
    refine (h.1 c (4 : Fin 5)).trans ((final_out m g c).trans ?_)
    have hd := Pre.decode _ _ _ _ (hpre c)
    have ha := fun d => (hagree d).1
    have hb := fun d => (hagree d).2.1
    have hc := fun d => (hagree d).2.2.1
    rw [ha c, hb c, hc c] at hd
    rw [Ref.res_eq]
    funext i
    rw [eq_ix2 i]
    exact (value_at m _ _ _ _ ha hb hc (fun d => (hagree d).2.2.2) hd.1 hd.2.1 hd.2.2 c (i 0) (i 1) _ rfl).trans
      (block_rows _ _ c (i 0) (i 1)).symm
  · exact (θ_run Cert.ReferenceIdeal.defs _ _).mono (fun _ h => h 0) (Cert.ReferenceIdeal.Value.run (F := Ideal) m' g')

end Cert.MoeRing
end
-- ==== Proof.lean ====
/-
# The proof of the certificate
-/
module

public import proofs.«01_k».proof.Defs
public import proofs.«01_k».proof.Proof.Frames
public import proofs.«01_k».proof.Proof.Pre
public import proofs.«01_k».proof.Proof.Algebraic
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

/-- Everything the certificate claims. -/
theorem claim : Cert.Claim := ⟨Cert.Kernel.Gen.facts, Cert.KernelIdeal.Gen.facts, Cert.ReferenceIdeal.Gen.facts,
  Cert.MoeRing.Pre.facts, Cert.MoeRing.Pre.factsRef,
  Cert.MoeRing.frame_kernel, fun m ρ _ => Cert.MoeRing.frame_any m ρ, fun m ρ _ => Cert.MoeRing.frame_any m ρ,
  fun m ρ _ => Cert.MoeRing.frame_reference m ρ, fun m ρ _ => Cert.MoeRing.frame_reference m ρ, trivial,
  Cert.MoeRing.algebraic⟩

end Cert.Proof

end
